-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v195) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x64 : Shape := ⟨2, ![4096, 64]⟩
abbrev S4096 : Shape := ⟨1, ![4096]⟩
abbrev S36 : Shape := ⟨1, ![36]⟩
abbrev S4096x1 : Shape := ⟨2, ![4096, 1]⟩
abbrev S1x4096 : Shape := ⟨2, ![1, 4096]⟩
abbrev S1x1 : Shape := ⟨2, ![1, 1]⟩
abbrev S_ : Shape := ⟨0, ![]⟩
abbrev S512x64 : Shape := ⟨2, ![512, 64]⟩
abbrev S1 : Shape := ⟨1, ![1]⟩
abbrev S512x1 : Shape := ⟨2, ![512, 1]⟩
abbrev S1x512 : Shape := ⟨2, ![1, 512]⟩
abbrev S20 : Shape := ⟨1, ![20]⟩
abbrev S512 : Shape := ⟨1, ![512]⟩
abbrev S512x512 : Shape := ⟨2, ![512, 512]⟩
abbrev S1x512x512 : Shape := ⟨3, ![1, 512, 512]⟩
abbrev S1x1x1 : Shape := ⟨3, ![1, 1, 1]⟩

abbrev nBuf : Space → Nat
  | .hbm => 6
  | .vmem => 8
  | .smem => 4
  | _ => 0

abbrev bufTy : (tb : Table) → Fin (tcTables nBuf tb) → BufTy
  | .hbm, ⟨0, _⟩ => ⟨S4096x64, .f32⟩
  | .hbm, ⟨1, _⟩ => ⟨S4096, .i32⟩
  | .hbm, ⟨2, _⟩ => ⟨S4096x1, .i32⟩
  | .hbm, ⟨3, _⟩ => ⟨S1x4096, .i32⟩
  | .hbm, ⟨4, _⟩ => ⟨S1x1, .f32⟩
  | .hbm, ⟨5, _⟩ => ⟨S_, .f32⟩
  | .local _ .vmem, ⟨0, _⟩ => ⟨S512x64, .f32⟩
  | .local _ .vmem, ⟨1, _⟩ => ⟨S512x64, .f32⟩
  | .local _ .vmem, ⟨2, _⟩ => ⟨S512x64, .f32⟩
  | .local _ .vmem, ⟨3, _⟩ => ⟨S512x64, .f32⟩
  | .local _ .vmem, ⟨4, _⟩ => ⟨S512x1, .i32⟩
  | .local _ .vmem, ⟨5, _⟩ => ⟨S512x1, .i32⟩
  | .local _ .vmem, ⟨6, _⟩ => ⟨S1x512, .i32⟩
  | .local _ .vmem, ⟨7, _⟩ => ⟨S1x512, .i32⟩
  | .local _ .smem, ⟨0, _⟩ => ⟨S36, .i32⟩
  | .local _ .smem, ⟨1, _⟩ => ⟨S36, .i32⟩
  | .local _ .smem, ⟨2, _⟩ => ⟨S1x1, .f32⟩
  | .local _ .smem, ⟨3, _⟩ => ⟨S20, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev main_call0_c : Ref sig .tc := ⟨.smem, 0, rfl⟩
abbrev main_call0_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.smem, 2, rfl⟩
abbrev cc0_scratch0 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![36], ![false]⟩

abbrev pre0 : Pipeline.Prefetch sig := ⟨2, ![main_call0_c.idx, main_call0_c_0.idx], fun | 0 => main_call0_c.names | 1 => main_call0_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (i : grid0.Coords) : BitVec 1 :=
  let arg0 : BitVec 32 := BitVec.ofNat 32 (i 0).val
  let c35_i32 : BitVec 32 := 35#32
  let v260 : BitVec 1 := Scalar.cmpi .eq arg0 c35_i32
  let v261 : BitVec 32 := Scalar.extui v260
  let c0_i32_75 : BitVec 32 := 0#32
  let v262 : BitVec 1 := Scalar.cmpi .ne v261 c0_i32_75
  v262

def cc0_transform_0 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S36) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S36) ![v0.toNat] S1.size (k0_off1_inb i)) numel1_S1
  let c0_i32 : BitVec 32 := 0#32
  let c0_i32_0 : BitVec 32 := 0#32
  ![v1.toNat, c0_i32.toNat]

def cc0_transform_2 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S36) ![v0.toNat] S1.size (k0_off1_inb i)) numel1_S1
  let c0_i32 : BitVec 32 := 0#32
  let c0_i32_0 : BitVec 32 := 0#32
  ![v1.toNat, c0_i32.toNat]

def cc0_transform_3 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S36) ![v0.toNat] S1.size (k0_off1_inb i)) numel1_S1
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S4096x64 : Shape := ⟨2, ![4096, 64]⟩
abbrev S4096 : Shape := ⟨1, ![4096]⟩
abbrev S_ : Shape := ⟨0, ![]⟩
abbrev S4096x1 : Shape := ⟨2, ![4096, 1]⟩
abbrev S64x4096 : Shape := ⟨2, ![64, 4096]⟩
abbrev S4096x4096 : Shape := ⟨2, ![4096, 4096]⟩
abbrev S1x4096 : Shape := ⟨2, ![1, 4096]⟩
abbrev S10 : Shape := ⟨1, ![10]⟩
abbrev S1 : Shape := ⟨1, ![1]⟩

abbrev nBuf : Space → Nat
  | .hbm => 289
  | .vmem => 0
  | .smem => 0
  | _ => 0

abbrev hbmTy0_0 (i : Nat) : BufTy := match i % 128 with
  | 0 => ⟨S4096x64, .f32⟩
  | 1 => ⟨S4096, .i32⟩
  | 2 => ⟨S4096x64, .f32⟩
  | 3 => ⟨S_, .f32⟩
  | 4 => ⟨S4096, .f32⟩
  | 5 => ⟨S4096x1, .f32⟩
  | 6 => ⟨S4096x1, .f32⟩
  | 7 => ⟨S_, .f32⟩
  | 8 => ⟨S4096x1, .f32⟩
  | 9 => ⟨S4096x1, .f32⟩
  | 10 => ⟨S4096x64, .f32⟩
  | 11 => ⟨S4096x64, .f32⟩
  | 12 => ⟨S64x4096, .f32⟩
  | 13 => ⟨S4096x4096, .f32⟩
  | 14 => ⟨S4096x1, .i32⟩
  | 15 => ⟨S1x4096, .i32⟩
  | 16 => ⟨S4096x4096, .i32⟩
  | 17 => ⟨S4096x4096, .i32⟩
  | 18 => ⟨S4096x4096, .i1⟩
  | 19 => ⟨S4096x4096, .f32⟩
  | 20 => ⟨S4096x4096, .f32⟩
  | 21 => ⟨S4096x4096, .f32⟩
  | 22 => ⟨S_, .f32⟩
  | 23 => ⟨S4096x4096, .f32⟩
  | 24 => ⟨S_, .f32⟩
  | 25 => ⟨S10, .f32⟩
  | 26 => ⟨S_, .f32⟩
  | 27 => ⟨S4096x4096, .f32⟩
  | 28 => ⟨S4096x4096, .i1⟩
  | 29 => ⟨S_, .f32⟩
  | 30 => ⟨S4096x4096, .f32⟩
  | 31 => ⟨S4096x4096, .i1⟩
  | 32 => ⟨S4096x4096, .i1⟩
  | 33 => ⟨S4096x4096, .i32⟩
  | 34 => ⟨S_, .i32⟩
  | 35 => ⟨S_, .i32⟩
  | 36 => ⟨S_, .f32⟩
  | 37 => ⟨S_, .f32⟩
  | 38 => ⟨S_, .f32⟩
  | 39 => ⟨S1, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S4096x4096, .f32⟩
  | 51 => ⟨S4096x4096, .f32⟩
  | 52 => ⟨S_, .f32⟩
  | 53 => ⟨S4096x4096, .f32⟩
  | 54 => ⟨S4096x4096, .i1⟩
  | 55 => ⟨S_, .f32⟩
  | 56 => ⟨S4096x4096, .f32⟩
  | 57 => ⟨S4096x4096, .i1⟩
  | 58 => ⟨S4096x4096, .i1⟩
  | 59 => ⟨S4096x4096, .i32⟩
  | 60 => ⟨S_, .i32⟩
  | 61 => ⟨S_, .i32⟩
  | 62 => ⟨S_, .f32⟩
  | 63 => ⟨S_, .f32⟩
  | 64 => ⟨S1, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S4096x4096, .f32⟩
  | 76 => ⟨S4096x4096, .f32⟩
  | 77 => ⟨S_, .f32⟩
  | 78 => ⟨S4096x4096, .f32⟩
  | 79 => ⟨S4096x4096, .i1⟩
  | 80 => ⟨S_, .f32⟩
  | 81 => ⟨S4096x4096, .f32⟩
  | 82 => ⟨S4096x4096, .i1⟩
  | 83 => ⟨S4096x4096, .i1⟩
  | 84 => ⟨S4096x4096, .i32⟩
  | 85 => ⟨S_, .i32⟩
  | 86 => ⟨S_, .i32⟩
  | 87 => ⟨S_, .f32⟩
  | 88 => ⟨S_, .f32⟩
  | 89 => ⟨S1, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S4096x4096, .f32⟩
  | 101 => ⟨S4096x4096, .f32⟩
  | 102 => ⟨S_, .f32⟩
  | 103 => ⟨S4096x4096, .f32⟩
  | 104 => ⟨S4096x4096, .i1⟩
  | 105 => ⟨S_, .f32⟩
  | 106 => ⟨S4096x4096, .f32⟩
  | 107 => ⟨S4096x4096, .i1⟩
  | 108 => ⟨S4096x4096, .i1⟩
  | 109 => ⟨S4096x4096, .i32⟩
  | 110 => ⟨S_, .i32⟩
  | 111 => ⟨S_, .i32⟩
  | 112 => ⟨S_, .f32⟩
  | 113 => ⟨S_, .f32⟩
  | 114 => ⟨S1, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S4096x4096, .f32⟩
  | 126 => ⟨S4096x4096, .f32⟩
  | 127 => ⟨S_, .f32⟩
  | _ => ⟨S4096x64, .f32⟩

abbrev hbmTy0_1 (i : Nat) : BufTy := match i % 128 with
  | 0 => ⟨S4096x4096, .f32⟩
  | 1 => ⟨S4096x4096, .i1⟩
  | 2 => ⟨S_, .f32⟩
  | 3 => ⟨S4096x4096, .f32⟩
  | 4 => ⟨S4096x4096, .i1⟩
  | 5 => ⟨S4096x4096, .i1⟩
  | 6 => ⟨S4096x4096, .i32⟩
  | 7 => ⟨S_, .i32⟩
  | 8 => ⟨S_, .i32⟩
  | 9 => ⟨S_, .f32⟩
  | 10 => ⟨S_, .f32⟩
  | 11 => ⟨S1, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S4096x4096, .f32⟩
  | 23 => ⟨S4096x4096, .f32⟩
  | 24 => ⟨S_, .f32⟩
  | 25 => ⟨S4096x4096, .f32⟩
  | 26 => ⟨S4096x4096, .i1⟩
  | 27 => ⟨S_, .f32⟩
  | 28 => ⟨S4096x4096, .f32⟩
  | 29 => ⟨S4096x4096, .i1⟩
  | 30 => ⟨S4096x4096, .i1⟩
  | 31 => ⟨S4096x4096, .i32⟩
  | 32 => ⟨S_, .i32⟩
  | 33 => ⟨S_, .i32⟩
  | 34 => ⟨S_, .f32⟩
  | 35 => ⟨S_, .f32⟩
  | 36 => ⟨S1, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S4096x4096, .f32⟩
  | 48 => ⟨S4096x4096, .f32⟩
  | 49 => ⟨S_, .f32⟩
  | 50 => ⟨S4096x4096, .f32⟩
  | 51 => ⟨S4096x4096, .i1⟩
  | 52 => ⟨S_, .f32⟩
  | 53 => ⟨S4096x4096, .f32⟩
  | 54 => ⟨S4096x4096, .i1⟩
  | 55 => ⟨S4096x4096, .i1⟩
  | 56 => ⟨S4096x4096, .i32⟩
  | 57 => ⟨S_, .i32⟩
  | 58 => ⟨S_, .i32⟩
  | 59 => ⟨S_, .f32⟩
  | 60 => ⟨S_, .f32⟩
  | 61 => ⟨S1, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S4096x4096, .f32⟩
  | 73 => ⟨S4096x4096, .f32⟩
  | 74 => ⟨S_, .f32⟩
  | 75 => ⟨S4096x4096, .f32⟩
  | 76 => ⟨S4096x4096, .i1⟩
  | 77 => ⟨S_, .f32⟩
  | 78 => ⟨S4096x4096, .f32⟩
  | 79 => ⟨S4096x4096, .i1⟩
  | 80 => ⟨S4096x4096, .i1⟩
  | 81 => ⟨S4096x4096, .i32⟩
  | 82 => ⟨S_, .i32⟩
  | 83 => ⟨S_, .i32⟩
  | 84 => ⟨S_, .f32⟩
  | 85 => ⟨S_, .f32⟩
  | 86 => ⟨S1, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S4096x4096, .f32⟩
  | 98 => ⟨S4096x4096, .f32⟩
  | 99 => ⟨S_, .f32⟩
  | 100 => ⟨S4096x4096, .f32⟩
  | 101 => ⟨S4096x4096, .i1⟩
  | 102 => ⟨S_, .f32⟩
  | 103 => ⟨S4096x4096, .f32⟩
  | 104 => ⟨S4096x4096, .i1⟩
  | 105 => ⟨S4096x4096, .i1⟩
  | 106 => ⟨S4096x4096, .i32⟩
  | 107 => ⟨S_, .i32⟩
  | 108 => ⟨S_, .i32⟩
  | 109 => ⟨S_, .f32⟩
  | 110 => ⟨S_, .f32⟩
  | 111 => ⟨S1, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S4096x4096, .f32⟩
  | 123 => ⟨S4096x4096, .f32⟩
  | 124 => ⟨S_, .f32⟩
  | 125 => ⟨S4096x4096, .f32⟩
  | 126 => ⟨S4096x4096, .i1⟩
  | 127 => ⟨S_, .f32⟩
  | _ => ⟨S4096x64, .f32⟩

abbrev hbmTy0_2 (i : Nat) : BufTy := match i % 128 with
  | 0 => ⟨S4096x4096, .f32⟩
  | 1 => ⟨S4096x4096, .i1⟩
  | 2 => ⟨S4096x4096, .i1⟩
  | 3 => ⟨S4096x4096, .i32⟩
  | 4 => ⟨S_, .i32⟩
  | 5 => ⟨S_, .i32⟩
  | 6 => ⟨S_, .f32⟩
  | 7 => ⟨S_, .f32⟩
  | 8 => ⟨S1, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S4096x4096, .f32⟩
  | 20 => ⟨S4096x4096, .f32⟩
  | 21 => ⟨S_, .f32⟩
  | 22 => ⟨S_, .i1⟩
  | 23 => ⟨S4096x4096, .f32⟩
  | 24 => ⟨S4096x4096, .f32⟩
  | 25 => ⟨S4096x4096, .f32⟩
  | 26 => ⟨S4096x4096, .f32⟩
  | 27 => ⟨S4096x4096, .f32⟩
  | 28 => ⟨S4096x4096, .f32⟩
  | 29 => ⟨S_, .f32⟩
  | 30 => ⟨S_, .f32⟩
  | 31 => ⟨S_, .f32⟩
  | 32 => ⟨S_, .f32⟩
  | _ => ⟨S4096x64, .f32⟩

abbrev hbmTy (i : Nat) : BufTy := match i / 128 with
  | 0 => hbmTy0_0 i
  | 1 => hbmTy0_1 i
  | 2 => hbmTy0_2 i
  | _ => ⟨S4096x64, .f32⟩

abbrev bufTy : (tb : Table) → Fin (tcTables nBuf tb) → BufTy
  | .hbm, ⟨i, _⟩ => hbmTy i
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_cst_8 : Ref sig .tc := ⟨.hbm, 48, rfl⟩
abbrev main_v32 : Ref sig .tc := ⟨.hbm, 49, rfl⟩
abbrev main_call1_v0 : Ref sig .tc := ⟨.hbm, 50, rfl⟩
abbrev main_v33 : Ref sig .tc := ⟨.hbm, 51, rfl⟩
abbrev main_cst_9 : Ref sig .tc := ⟨.hbm, 52, rfl⟩
abbrev main_v34 : Ref sig .tc := ⟨.hbm, 53, rfl⟩
abbrev main_v35 : Ref sig .tc := ⟨.hbm, 54, rfl⟩
abbrev main_cst_10 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_c_11 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_12 : Ref sig .tc := ⟨.hbm, 66, rfl⟩
abbrev main_v45 : Ref sig .tc := ⟨.hbm, 67, rfl⟩
abbrev main_cst_13 : Ref sig .tc := ⟨.hbm, 68, rfl⟩
abbrev main_v46 : Ref sig .tc := ⟨.hbm, 69, rfl⟩
abbrev main_v47 : Ref sig .tc := ⟨.hbm, 70, rfl⟩
abbrev main_cst_14 : Ref sig .tc := ⟨.hbm, 71, rfl⟩
abbrev main_v48 : Ref sig .tc := ⟨.hbm, 72, rfl⟩
abbrev main_cst_15 : Ref sig .tc := ⟨.hbm, 73, rfl⟩
abbrev main_v49 : Ref sig .tc := ⟨.hbm, 74, rfl⟩
abbrev main_call2_v0 : Ref sig .tc := ⟨.hbm, 75, rfl⟩
abbrev main_v50 : Ref sig .tc := ⟨.hbm, 76, rfl⟩
abbrev main_cst_16 : Ref sig .tc := ⟨.hbm, 77, rfl⟩
abbrev main_v51 : Ref sig .tc := ⟨.hbm, 78, rfl⟩
abbrev main_v52 : Ref sig .tc := ⟨.hbm, 79, rfl⟩
abbrev main_cst_17 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_c_18 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_19 : Ref sig .tc := ⟨.hbm, 91, rfl⟩
abbrev main_v62 : Ref sig .tc := ⟨.hbm, 92, rfl⟩
abbrev main_cst_20 : Ref sig .tc := ⟨.hbm, 93, rfl⟩
abbrev main_v63 : Ref sig .tc := ⟨.hbm, 94, rfl⟩
abbrev main_v64 : Ref sig .tc := ⟨.hbm, 95, rfl⟩
abbrev main_cst_21 : Ref sig .tc := ⟨.hbm, 96, rfl⟩
abbrev main_v65 : Ref sig .tc := ⟨.hbm, 97, rfl⟩
abbrev main_cst_22 : Ref sig .tc := ⟨.hbm, 98, rfl⟩
abbrev main_v66 : Ref sig .tc := ⟨.hbm, 99, rfl⟩
abbrev main_call3_v0 : Ref sig .tc := ⟨.hbm, 100, rfl⟩
abbrev main_v67 : Ref sig .tc := ⟨.hbm, 101, rfl⟩
abbrev main_cst_23 : Ref sig .tc := ⟨.hbm, 102, rfl⟩
abbrev main_v68 : Ref sig .tc := ⟨.hbm, 103, rfl⟩
abbrev main_v69 : Ref sig .tc := ⟨.hbm, 104, rfl⟩
abbrev main_cst_24 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_c_25 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_cst_26 : Ref sig .tc := ⟨.hbm, 116, rfl⟩
abbrev main_v79 : Ref sig .tc := ⟨.hbm, 117, rfl⟩
abbrev main_cst_27 : Ref sig .tc := ⟨.hbm, 118, rfl⟩
abbrev main_v80 : Ref sig .tc := ⟨.hbm, 119, rfl⟩
abbrev main_v81 : Ref sig .tc := ⟨.hbm, 120, rfl⟩
abbrev main_cst_28 : Ref sig .tc := ⟨.hbm, 121, rfl⟩
abbrev main_v82 : Ref sig .tc := ⟨.hbm, 122, rfl⟩
abbrev main_cst_29 : Ref sig .tc := ⟨.hbm, 123, rfl⟩
abbrev main_v83 : Ref sig .tc := ⟨.hbm, 124, rfl⟩
abbrev main_call4_v0 : Ref sig .tc := ⟨.hbm, 125, rfl⟩
abbrev main_v84 : Ref sig .tc := ⟨.hbm, 126, rfl⟩
abbrev main_cst_30 : Ref sig .tc := ⟨.hbm, 127, rfl⟩
abbrev main_v85 : Ref sig .tc := ⟨.hbm, 128, rfl⟩
abbrev main_v86 : Ref sig .tc := ⟨.hbm, 129, rfl⟩
abbrev main_cst_31 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_c_32 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_cst_33 : Ref sig .tc := ⟨.hbm, 141, rfl⟩
abbrev main_v96 : Ref sig .tc := ⟨.hbm, 142, rfl⟩
abbrev main_cst_34 : Ref sig .tc := ⟨.hbm, 143, rfl⟩
abbrev main_v97 : Ref sig .tc := ⟨.hbm, 144, rfl⟩
abbrev main_v98 : Ref sig .tc := ⟨.hbm, 145, rfl⟩
abbrev main_cst_35 : Ref sig .tc := ⟨.hbm, 146, rfl⟩
abbrev main_v99 : Ref sig .tc := ⟨.hbm, 147, rfl⟩
abbrev main_cst_36 : Ref sig .tc := ⟨.hbm, 148, rfl⟩
abbrev main_v100 : Ref sig .tc := ⟨.hbm, 149, rfl⟩
abbrev main_call5_v0 : Ref sig .tc := ⟨.hbm, 150, rfl⟩
abbrev main_v101 : Ref sig .tc := ⟨.hbm, 151, rfl⟩
abbrev main_cst_37 : Ref sig .tc := ⟨.hbm, 152, rfl⟩
abbrev main_v102 : Ref sig .tc := ⟨.hbm, 153, rfl⟩
abbrev main_v103 : Ref sig .tc := ⟨.hbm, 154, rfl⟩
abbrev main_cst_38 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_c_39 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_cst_40 : Ref sig .tc := ⟨.hbm, 166, rfl⟩
abbrev main_v113 : Ref sig .tc := ⟨.hbm, 167, rfl⟩
abbrev main_cst_41 : Ref sig .tc := ⟨.hbm, 168, rfl⟩
abbrev main_v114 : Ref sig .tc := ⟨.hbm, 169, rfl⟩
abbrev main_v115 : Ref sig .tc := ⟨.hbm, 170, rfl⟩
abbrev main_cst_42 : Ref sig .tc := ⟨.hbm, 171, rfl⟩
abbrev main_v116 : Ref sig .tc := ⟨.hbm, 172, rfl⟩
abbrev main_cst_43 : Ref sig .tc := ⟨.hbm, 173, rfl⟩
abbrev main_v117 : Ref sig .tc := ⟨.hbm, 174, rfl⟩
abbrev main_call6_v0 : Ref sig .tc := ⟨.hbm, 175, rfl⟩
abbrev main_v118 : Ref sig .tc := ⟨.hbm, 176, rfl⟩
abbrev main_cst_44 : Ref sig .tc := ⟨.hbm, 177, rfl⟩
abbrev main_v119 : Ref sig .tc := ⟨.hbm, 178, rfl⟩
abbrev main_v120 : Ref sig .tc := ⟨.hbm, 179, rfl⟩
abbrev main_cst_45 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_c_46 : Ref sig .tc := ⟨.hbm, 185, rfl⟩
abbrev main_v125 : Ref sig .tc := ⟨.hbm, 186, rfl⟩
abbrev main_v126 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_cst_47 : Ref sig .tc := ⟨.hbm, 191, rfl⟩
abbrev main_v130 : Ref sig .tc := ⟨.hbm, 192, rfl⟩
abbrev main_cst_48 : Ref sig .tc := ⟨.hbm, 193, rfl⟩
abbrev main_v131 : Ref sig .tc := ⟨.hbm, 194, rfl⟩
abbrev main_v132 : Ref sig .tc := ⟨.hbm, 195, rfl⟩
abbrev main_cst_49 : Ref sig .tc := ⟨.hbm, 196, rfl⟩
abbrev main_v133 : Ref sig .tc := ⟨.hbm, 197, rfl⟩
abbrev main_cst_50 : Ref sig .tc := ⟨.hbm, 198, rfl⟩
abbrev main_v134 : Ref sig .tc := ⟨.hbm, 199, rfl⟩
abbrev main_call7_v0 : Ref sig .tc := ⟨.hbm, 200, rfl⟩
abbrev main_v135 : Ref sig .tc := ⟨.hbm, 201, rfl⟩
abbrev main_cst_51 : Ref sig .tc := ⟨.hbm, 202, rfl⟩
abbrev main_v136 : Ref sig .tc := ⟨.hbm, 203, rfl⟩
abbrev main_v137 : Ref sig .tc := ⟨.hbm, 204, rfl⟩
abbrev main_cst_52 : Ref sig .tc := ⟨.hbm, 205, rfl⟩
abbrev main_v138 : Ref sig .tc := ⟨.hbm, 206, rfl⟩
abbrev main_v139 : Ref sig .tc := ⟨.hbm, 207, rfl⟩
abbrev main_v140 : Ref sig .tc := ⟨.hbm, 208, rfl⟩
abbrev main_v141 : Ref sig .tc := ⟨.hbm, 209, rfl⟩
abbrev main_c_53 : Ref sig .tc := ⟨.hbm, 210, rfl⟩
abbrev main_v142 : Ref sig .tc := ⟨.hbm, 211, rfl⟩
abbrev main_v143 : Ref sig .tc := ⟨.hbm, 212, rfl⟩
abbrev main_v144 : Ref sig .tc := ⟨.hbm, 213, rfl⟩
abbrev main_v145 : Ref sig .tc := ⟨.hbm, 214, rfl⟩
abbrev main_v146 : Ref sig .tc := ⟨.hbm, 215, rfl⟩
abbrev main_cst_54 : Ref sig .tc := ⟨.hbm, 216, rfl⟩
abbrev main_v147 : Ref sig .tc := ⟨.hbm, 217, rfl⟩
abbrev main_cst_55 : Ref sig .tc := ⟨.hbm, 218, rfl⟩
abbrev main_v148 : Ref sig .tc := ⟨.hbm, 219, rfl⟩
abbrev main_v149 : Ref sig .tc := ⟨.hbm, 220, rfl⟩
abbrev main_cst_56 : Ref sig .tc := ⟨.hbm, 221, rfl⟩
abbrev main_v150 : Ref sig .tc := ⟨.hbm, 222, rfl⟩
abbrev main_cst_57 : Ref sig .tc := ⟨.hbm, 223, rfl⟩
abbrev main_v151 : Ref sig .tc := ⟨.hbm, 224, rfl⟩
abbrev main_call8_v0 : Ref sig .tc := ⟨.hbm, 225, rfl⟩
abbrev main_v152 : Ref sig .tc := ⟨.hbm, 226, rfl⟩
abbrev main_cst_58 : Ref sig .tc := ⟨.hbm, 227, rfl⟩
abbrev main_v153 : Ref sig .tc := ⟨.hbm, 228, rfl⟩
abbrev main_v154 : Ref sig .tc := ⟨.hbm, 229, rfl⟩
abbrev main_cst_59 : Ref sig .tc := ⟨.hbm, 230, rfl⟩
abbrev main_v155 : Ref sig .tc := ⟨.hbm, 231, rfl⟩
abbrev main_v156 : Ref sig .tc := ⟨.hbm, 232, rfl⟩
abbrev main_v157 : Ref sig .tc := ⟨.hbm, 233, rfl⟩
abbrev main_v158 : Ref sig .tc := ⟨.hbm, 234, rfl⟩
abbrev main_c_60 : Ref sig .tc := ⟨.hbm, 235, rfl⟩
abbrev main_v159 : Ref sig .tc := ⟨.hbm, 236, rfl⟩
abbrev main_v160 : Ref sig .tc := ⟨.hbm, 237, rfl⟩
abbrev main_v161 : Ref sig .tc := ⟨.hbm, 238, rfl⟩
abbrev main_v162 : Ref sig .tc := ⟨.hbm, 239, rfl⟩
abbrev main_v163 : Ref sig .tc := ⟨.hbm, 240, rfl⟩
abbrev main_cst_61 : Ref sig .tc := ⟨.hbm, 241, rfl⟩
abbrev main_v164 : Ref sig .tc := ⟨.hbm, 242, rfl⟩
abbrev main_cst_62 : Ref sig .tc := ⟨.hbm, 243, rfl⟩
abbrev main_v165 : Ref sig .tc := ⟨.hbm, 244, rfl⟩
abbrev main_v166 : Ref sig .tc := ⟨.hbm, 245, rfl⟩
abbrev main_cst_63 : Ref sig .tc := ⟨.hbm, 246, rfl⟩
abbrev main_v167 : Ref sig .tc := ⟨.hbm, 247, rfl⟩
abbrev main_cst_64 : Ref sig .tc := ⟨.hbm, 248, rfl⟩
abbrev main_v168 : Ref sig .tc := ⟨.hbm, 249, rfl⟩
abbrev main_call9_v0 : Ref sig .tc := ⟨.hbm, 250, rfl⟩
abbrev main_v169 : Ref sig .tc := ⟨.hbm, 251, rfl⟩
abbrev main_cst_65 : Ref sig .tc := ⟨.hbm, 252, rfl⟩
abbrev main_v170 : Ref sig .tc := ⟨.hbm, 253, rfl⟩
abbrev main_v171 : Ref sig .tc := ⟨.hbm, 254, rfl⟩
abbrev main_cst_66 : Ref sig .tc := ⟨.hbm, 255, rfl⟩
abbrev main_v172 : Ref sig .tc := ⟨.hbm, 256, rfl⟩
abbrev main_v173 : Ref sig .tc := ⟨.hbm, 257, rfl⟩
abbrev main_v174 : Ref sig .tc := ⟨.hbm, 258, rfl⟩
abbrev main_v175 : Ref sig .tc := ⟨.hbm, 259, rfl⟩
abbrev main_c_67 : Ref sig .tc := ⟨.hbm, 260, rfl⟩
abbrev main_v176 : Ref sig .tc := ⟨.hbm, 261, rfl⟩
abbrev main_v177 : Ref sig .tc := ⟨.hbm, 262, rfl⟩
abbrev main_v178 : Ref sig .tc := ⟨.hbm, 263, rfl⟩
abbrev main_v179 : Ref sig .tc := ⟨.hbm, 264, rfl⟩
abbrev main_v180 : Ref sig .tc := ⟨.hbm, 265, rfl⟩
abbrev main_cst_68 : Ref sig .tc := ⟨.hbm, 266, rfl⟩
abbrev main_v181 : Ref sig .tc := ⟨.hbm, 267, rfl⟩
abbrev main_cst_69 : Ref sig .tc := ⟨.hbm, 268, rfl⟩
abbrev main_v182 : Ref sig .tc := ⟨.hbm, 269, rfl⟩
abbrev main_v183 : Ref sig .tc := ⟨.hbm, 270, rfl⟩
abbrev main_cst_70 : Ref sig .tc := ⟨.hbm, 271, rfl⟩
abbrev main_v184 : Ref sig .tc := ⟨.hbm, 272, rfl⟩
abbrev main_cst_71 : Ref sig .tc := ⟨.hbm, 273, rfl⟩
abbrev main_v185 : Ref sig .tc := ⟨.hbm, 274, rfl⟩
abbrev main_call10_v0 : Ref sig .tc := ⟨.hbm, 275, rfl⟩
abbrev main_v186 : Ref sig .tc := ⟨.hbm, 276, rfl⟩
abbrev main_cst_72 : Ref sig .tc := ⟨.hbm, 277, rfl⟩
abbrev main_v187 : Ref sig .tc := ⟨.hbm, 278, rfl⟩
abbrev main_v188 : Ref sig .tc := ⟨.hbm, 279, rfl⟩
abbrev main_v189 : Ref sig .tc := ⟨.hbm, 280, rfl⟩
abbrev main_v190 : Ref sig .tc := ⟨.hbm, 281, rfl⟩
abbrev main_v191 : Ref sig .tc := ⟨.hbm, 282, rfl⟩
abbrev main_v192 : Ref sig .tc := ⟨.hbm, 283, rfl⟩
abbrev main_v193 : Ref sig .tc := ⟨.hbm, 284, rfl⟩
abbrev main_cst_73 : Ref sig .tc := ⟨.hbm, 285, rfl⟩
abbrev main_v194 : Ref sig .tc := ⟨.hbm, 286, rfl⟩
abbrev main_cst_74 : Ref sig .tc := ⟨.hbm, 287, rfl⟩
abbrev main_v195 : Ref sig .tc := ⟨.hbm, 288, rfl⟩

abbrev nD : Nat := 1
abbrev τ : Topo := Topo.v7x

variable {F : FTy → Type} [FloatOps F]
-- ==== Proof.TablesIdeal.lean ====
/- The two prefetched tables of the idealised program: their words, and that every block they name lies inside its
   array. -/
module

public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]
variable (m : (ℓ : Loc nD τ sig) → Buf (Elt F) ℓ)

/-- The first prefetched table holds the row block of each pair. -/
theorem tbl_zero : tbl m 0 = fun i => lit0 (S36.rowMajor i) := by
  show StableHlo.after hostOps0 (fun b => m (0, b)) (Proc.devRef .tc main_call0_c) = _
  unfold hostOps0
  after_results
  rfl

/-- The second prefetched table holds the column block of each pair. -/
theorem tbl_one : tbl m 1 = fun i => lit1 (S36.rowMajor i) := by
  show StableHlo.after hostOps0 (fun b => m (0, b)) (Proc.devRef .tc main_call0_c_0) = _
  unfold hostOps0
  after_results
  rfl

/-- The word a scalar load at grid point `i` reads is the table's word number `i`. -/
theorem rowMajor_point (i : grid0.Coords) :
    S36.rowMajor ((Rect.unit (s := S36) (k0_off1 i) S1.size (k0_off1_inb i)).point numel1_S1) = i 0 := by
  apply Fin.ext
  rw [Shape.rowMajor_val_one]
  show (BitVec.ofNat 32 (i 0).val).toNat + 1 * 0 = (i 0).val
  have h : (i 0).val < 36 := (i 0).isLt
  rw [BitVec.toNat_ofNat]; omega

/-- The row block of pair `i`, as the index map of the first window reads it. -/
theorem transform_zero (i : grid0.Coords) :
    cc0_transform_0 k0_off1_inb numel1_S1 (tbl m) i = ![(lit0 (i 0)).toNat, 0] := by
  exact congrArg (fun k : BitVec 32 => ![k.toNat, 0]) ((congrFun (tbl_zero m) _).trans (congrArg lit0 (rowMajor_point i)))

/-- The column block of pair `i`, as the index map of the second window reads it. -/
theorem transform_one (i : grid0.Coords) :
    cc0_transform_1 k0_off1_inb numel1_S1 (tbl m) i = ![(lit1 (i 0)).toNat, 0] := by
  exact congrArg (fun k : BitVec 32 => ![k.toNat, 0]) ((congrFun (tbl_one m) _).trans (congrArg lit1 (rowMajor_point i)))

/-- The row block of pair `i`, as the index map of the third window reads it. -/
theorem transform_two (i : grid0.Coords) :
    cc0_transform_2 k0_off1_inb numel1_S1 (tbl m) i = ![(lit0 (i 0)).toNat, 0] := by
  exact congrArg (fun k : BitVec 32 => ![k.toNat, 0]) ((congrFun (tbl_zero m) _).trans (congrArg lit0 (rowMajor_point i)))

/-- The column block of pair `i`, as the index map of the fourth window reads it. -/
theorem transform_three (i : grid0.Coords) :
    cc0_transform_3 k0_off1_inb numel1_S1 (tbl m) i = ![0, (lit1 (i 0)).toNat] := by
  exact congrArg (fun k : BitVec 32 => ![0, k.toNat]) ((congrFun (tbl_one m) _).trans (congrArg lit1 (rowMajor_point i)))

/-- Every row block the table names is one of the eight. -/
theorem lit0_lt : ∀ k : Fin 36, (lit0 k).toNat < 8 := by decide +kernel

/-- Every column block the table names is one of the eight. -/
theorem lit1_lt : ∀ k : Fin 36, (lit1 k).toNat < 8 := by decide +kernel

/-- The pipeline's side condition: every block that the tables name lies inside its array. -/
theorem ok : Ok m := by
  refine ⟨fun i => ⟨?_, .inl rfl⟩, fun i => ⟨?_, .inl rfl⟩, fun i => ⟨?_, .inl rfl⟩, fun i => ⟨?_, .inl rfl⟩⟩
  · have h := lit0_lt (i 0)
    rw [transform_zero]; intro a; fin_cases a
    · show ((lit0 (i 0)).toNat + 1) * 512 ≤ 4096; omega
    · show (0 + 1) * 64 ≤ 64; omega
  · have h := lit1_lt (i 0)
    rw [transform_one]; intro a; fin_cases a
    · show ((lit1 (i 0)).toNat + 1) * 512 ≤ 4096; omega
    · show (0 + 1) * 64 ≤ 64; omega
  · have h := lit0_lt (i 0)
    rw [transform_two]; intro a; fin_cases a
    · show ((lit0 (i 0)).toNat + 1) * 512 ≤ 4096; omega
    · show (0 + 1) * 1 ≤ 1; omega
  · have h := lit1_lt (i 0)
    rw [transform_three]; intro a; fin_cases a
    · show (0 + 1) * 1 ≤ 1; omega
    · show ((lit1 (i 0)).toNat + 1) * 512 ≤ 4096; omega

end Cert.KernelIdeal.Hand
-- ==== Proof.Frames.lean ====
/- The frames: each of the three programs runs, leaves its arguments as they were and every counter at zero. -/
module

public import proofs.«01_k».proof.Defs
public import proofs.«01_k».proof.Proof.TablesBits
public import proofs.«01_k».proof.Proof.TablesIdeal
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Frames

open Idealize.ShloMosaic Idealize.SL.Sem

/-- The kernel as written runs and leaves its arguments unchanged. -/
theorem frame_kernel : Cert.quiescent_Kernel := fun m ρ _ =>
  Cert.Kernel.Gen.frame m ρ (Cert.Kernel.Hand.ok m)

/-- The kernel read over the extended reals runs and leaves its arguments unchanged. -/
theorem frame_kernelIdeal : Cert.quiescent_KernelIdeal := fun m ρ _ =>
  Cert.KernelIdeal.Gen.frame m ρ (Cert.KernelIdeal.Hand.ok m)

/-- The reference read over the extended reals runs and leaves its arguments unchanged. -/
theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

end Cert.Frames

end
-- ==== Proof.Edges.lean ====
/- The edges of the ten bins and the constants of the loss, as numbers. -/
module

public import Idealize.ShloMosaic.PureOps.Ideal.Laws
public import Mathlib.Tactic.Positivity
public import Mathlib.Tactic.NormNum

@[expose] public section

noncomputable section

namespace Cert.Plain

open Idealize.ShloMosaic

/-- The word of the upper edge of bin `k`. -/
def edgeWord : ℕ → BitVec 32
  | 0 => 0x3DCCCCCD#32
  | 1 => 0x3E4CCCCD#32
  | 2 => 0x3E99999A#32
  | 3 => 0x3ECCCCCD#32
  | 4 => 0x3F000000#32
  | 5 => 0x3F19999A#32
  | 6 => 0x3F333333#32
  | 7 => 0x3F4CCCCD#32
  | 8 => 0x3F666666#32
  | _ => 0x3F800008#32

/-- The edges: zero, then the upper edge of each bin. -/
def edge : ℕ → EReal
  | 0 => 0
  | k + 1 => Ideal.ofBits .f32 (edgeWord k)

/-- The exponent field of a word. -/
def expo (w : BitVec 32) : ℕ := (w.extractLsb' 23 8).toNat

/-- A word's number in units of `2 ^ (-50)`. -/
def units (w : BitVec 32) : ℕ := (2 ^ 23 + (w.extractLsb' 0 23).toNat) * 2 ^ (expo w - 100)

/-- The number of a positive word whose exponent field is neither small nor the last. -/
theorem word_value (w : BitVec 32) (hs : ¬w.extractLsb' 31 1 = 1#1) (hlo : 100 ≤ expo w) (hhi : expo w < 255) :
    Ideal.ofBits .f32 w = ((units w : ℝ) / 2 ^ 50 : ℝ) := by
  have h1 : ¬(w.extractLsb' 23 8).toNat = 2 ^ 8 - 1 := fun h => by unfold expo at hhi; omega
  have h2 : ¬(w.extractLsb' 23 8).toNat = 0 := fun h => by unfold expo at hlo; omega
  have hs' : (w.extractLsb' (8 + 23) 1 == 1#1) = false := by simpa using hs
  show Ideal.ieee 8 23 w = _
  unfold Ideal.ieee
  simp only [hs']
  rw [if_neg h1, if_neg h2]
  apply congrArg ((↑) : ℝ → EReal)
  unfold units expo at *
  generalize (w.extractLsb' 23 8).toNat = e at *
  obtain ⟨d, rfl⟩ : ∃ d, e = 100 + d := ⟨e - 100, by omega⟩
  rw [show ((100 + d : ℕ) : ℤ) - (2 ^ (8 - 1) - 1) - (23 : ℕ) = (d : ℤ) - 50 by push_cast; ring, zpow_sub₀ (by norm_num : (2 : ℝ) ≠ 0),
    Nat.add_sub_cancel_left]
  push_cast
  rw [zpow_natCast]
  norm_num
  ring

/-- The edges' words are positive, normal and not too small for the units. -/
theorem edge_words : ∀ k < 10, ¬(edgeWord k).extractLsb' 31 1 = 1#1 ∧ 100 ≤ expo (edgeWord k) ∧ expo (edgeWord k) < 255 := by decide

/-- An upper edge is its word's number of units. -/
theorem edge_succ {k : ℕ} (hk : k < 10) : edge (k + 1) = ((units (edgeWord k) : ℝ) / 2 ^ 50 : ℝ) :=
  word_value _ (edge_words k hk).1 (edge_words k hk).2.1 (edge_words k hk).2.2

/-- The units of the edges' words increase. -/
theorem units_le : ∀ k < 9, units (edgeWord k) ≤ units (edgeWord (k + 1)) := by decide

/-- The edges ascend. -/
theorem edge_le : ∀ k < 10, edge k ≤ edge (k + 1) := by
  intro k hk
  rw [edge_succ hk]
  cases k with
  | zero => exact EReal.coe_nonneg.mpr (by positivity)
  | succ k =>
    rw [edge_succ (show k < 10 by omega)]
    exact EReal.coe_le_coe_iff.mpr (div_le_div_of_nonneg_right (Nat.cast_le.mpr (units_le k (by omega))) (by positivity))

/-- The word of one half. -/
theorem half_eq : Ideal.ofBits .f32 0x3F000000#32 = ((1 / 2 : ℝ) : EReal) := by
  rw [word_value _ (by decide) (by decide) (by decide), show units 0x3F000000#32 = 2 ^ 49 by decide]
  norm_num

/-- The number that keeps the divisors off zero. -/
def eps : ℝ := (units 0x358637BD#32 : ℝ) / 2 ^ 50

/-- The word of the number that keeps the divisors off zero. -/
theorem eps_eq : Ideal.ofBits .f32 0x358637BD#32 = (eps : EReal) :=
  word_value _ (by decide) (by decide) (by decide)

/-- That number is positive. -/
theorem eps_pos : 0 < eps := by
  unfold eps
  rw [show units 0x358637BD#32 = 8796093 * 2 ^ 7 by decide]
  norm_num

/-- The word of the number of entries. -/
theorem total_eq : Ideal.ofBits .f32 0x4B800000#32 = ((16777216 : ℝ) : EReal) := by
  rw [word_value _ (by decide) (by decide) (by decide), show units 0x4B800000#32 = 2 ^ 74 by decide]
  norm_num

/-- The word of two. -/
theorem two_eq : Ideal.ofBits .f32 0x40000000#32 = ((2 : ℝ) : EReal) := by
  rw [word_value _ (by decide) (by decide) (by decide), show units 0x40000000#32 = 2 ^ 51 by decide]
  norm_num

end Cert.Plain

end
-- ==== Proof.Body.lean ====
/- What one grid point does to the twenty accumulators, and what the last point stores: the pieces each run of the body
   leaves, read back as one function of the block of gradient norms, the weight and the accumulators before the point. -/
module

public import proofs.«01_k».proof.Proof.Edges
public import proofs.«01_k».proof.Proof.Gen.KernelIdeal.Frame
public import Idealize.ShloMosaic.Lib.Pipeline.ReadBack
public import Idealize.ShloMosaic.Lib.WholeRead

@[expose] public section

set_option maxRecDepth 16384

noncomputable section

namespace Cert.KernelIdeal.Hand

open Cert.KernelIdeal Cert.KernelIdeal.Gen
open Idealize.ShloMosaic Idealize.ShloMosaic.TcCoe
open Cert.Plain (edgeWord)

variable {F : FTy → Type} [FloatOps F]

/-- The sum of a block of numbers, as the body takes it. -/
def blockSum (v : FVec F S512x512 .f32) : F .f32 :=
  extractAt ![0, 0, 0]
    (shapeCast S1x1x1
      (multiReduction .add [1, 2] S1 (shapeCast S1x512x512 v shapeCasts_S512x512_S1x512x512) 0x00000000#32
        reduces_S1x512x512_S1 (.inl rfl) rfl)
      shapeCasts_S1_S1x1x1)
    inpos_S1x1x1_p0_0_0

/-- Which entries of a block of norms lie below the upper edge of bin `k`. -/
def below (G : FVec F S512x512 .f32) (k : ℕ) : IVec S512x512 1 :=
  cmpf .olt G (broadcast S512x512 (Scalar.ofBits .f32 (edgeWord k) : F .f32))

/-- How many entries of a block lie below the upper edge of bin `k`. -/
def countBelow (G : FVec F S512x512 .f32) (k : ℕ) : F .f32 :=
  blockSum (sitofp .f32 (extui 32 (below G k) natLt_1_32))

/-- The sum of the squares of the entries below the upper edge of bin `k`. -/
def squaresBelow (G : FVec F S512x512 .f32) (k : ℕ) : F .f32 :=
  blockSum (select (below G k) (mulf G G) (broadcast S512x512 (Scalar.ofBits .f32 0x00000000#32 : F .f32)))

/-- What a block adds to slot `n`: the ten counts, then the ten sums of squares. -/
def slot (G : FVec F S512x512 .f32) (n : ℕ) : F .f32 :=
  if n < 10 then countBelow G n else squaresBelow G (n - 10)

/-- The accumulators after a point, from the weight, the block of norms and the accumulators before. -/
def next (w : F .f32) (G : FVec F S512x512 .f32) (acc : Vec F S20 .f32) : Vec F S20 .f32 := fun y =>
  Scalar.addf (acc y) (Scalar.mulf w (slot G (y 0).val))

/-- Slot `k` of the accumulators. -/
def at20 (k : ℕ) : S20.Idx := fun a => ⟨k % 20, lt_of_lt_of_eq (Nat.mod_lt k (show 0 < 20 by decide)) (by
  obtain rfl := Subsingleton.elim a (0 : Fin 1)
  rfl)⟩

/-- An entry less the entry before it, the first less zero. -/
def less (acc : Vec F S20 .f32) (base : ℕ) : ℕ → F .f32
  | 0 => Scalar.subf (acc (at20 base)) (Scalar.ofBits .f32 0x00000000#32)
  | k + 1 => Scalar.subf (acc (at20 (base + (k + 1)))) (acc (at20 (base + k)))

/-- One bin's share of the loss. -/
def share (acc : Vec F S20 .f32) (k : ℕ) : F .f32 :=
  Scalar.divf (less acc 10 k)
    (Scalar.addf (Scalar.mulf (Scalar.ofBits .f32 0x3F000000#32) (less acc 0 k)) (Scalar.ofBits .f32 0x358637BD#32))

/-- The shares of the first `n` bins added up. -/
def shares (acc : Vec F S20 .f32) : ℕ → F .f32
  | 0 => Scalar.ofBits .f32 0x00000000#32
  | n + 1 => Scalar.addf (shares acc n) (share acc n)

/-- The loss, from the accumulators after the last point. -/
def finish (acc : Vec F S20 .f32) : F .f32 :=
  Scalar.select (Scalar.cmpf .ogt (acc (at20 9)) (Scalar.ofBits .f32 0x00000000#32))
    (Scalar.divf (shares acc 10) (acc (at20 9))) (Scalar.ofBits .f32 0x00000000#32)

/-- A one-entry store into slot `k` is a block of `H` when it stores `H` at `k`. -/
theorem slot_store (H : S20.Idx → Elt F .f32) (k : ℕ) (h : ∀ a, (![k] : Fin 1 → ℕ) a + (![1] : Fin 1 → ℕ) a ≤ S20.size a) (v : Elt F .f32)
    (hv : v = H (at20 k)) : ∀ x, (fun _ => v) x = H ((Rect.unit (s := S20) ![k] ![1] h).emb x) := by
  intro x
  have h0 : k + 1 ≤ 20 := h 0
  refine hv.trans (congrArg H (funext fun a => ?_))
  obtain rfl := Subsingleton.elim a (0 : Fin 1)
  refine Fin.ext ?_
  have hx : (x 0).val < 1 := (x 0).isLt
  show k % 20 = k + 1 * (x 0).val
  omega

/-- What a load of slot `k` reads. -/
theorem read_slot {arg8 : Memref sig .tc .smem S20 .f32} (f : arg8.view.ty.Contents (Elt F)) (k : ℕ)
    (h : ∀ a, (![k] : Fin 1 → ℕ) a + S1.size a ≤ S20.size a)
    (hn : 0 < (Rect.unit (s := S20) ![k] S1.size h).toLoadRect.shape.numel) :
    View.readAt (Elt F) arg8.view (Rect.unit (s := S20) ![k] S1.size h).toLoadRect f (Shape.Idx.first hn)
      = View.read (Elt F) arg8.view f (at20 k) := by
  have h0 : k + 1 ≤ 20 := h 0
  show View.read (Elt F) arg8.view f _ = _
  refine congrArg (View.read (Elt F) arg8.view f) (funext fun a => ?_)
  obtain rfl := Subsingleton.elim a (0 : Fin 1)
  refine Fin.ext ?_
  show k + 1 * 0 = k % 20
  omega

/-- Slot `k` of what a block adds, a count. -/
theorem slot_count (G : FVec F S512x512 .f32) (k : ℕ) (hk : k < 10) : countBelow G k = slot G (at20 k 0).val := by
  have e : (at20 k 0).val = k := Nat.mod_eq_of_lt (by omega)
  rw [e, slot, if_pos hk]

/-- Slot `10 + k` of what a block adds, a sum of squares. -/
theorem slot_squares (G : FVec F S512x512 .f32) (k : ℕ) (hk : k < 10) :
    squaresBelow G k = slot G (at20 (10 + k) 0).val := by
  have e : (at20 (10 + k) 0).val = 10 + k := Nat.mod_eq_of_lt (by omega)
  rw [e, slot, if_neg (by omega), Nat.add_sub_cancel_left]

/-- Slot `k` after a point, a count, from what it held before. -/
theorem at_count {w : F .f32} {G : FVec F S512x512 .f32} {acc : Vec F S20 .f32} (k : ℕ) (hk : k < 10)
    {v p : F .f32} (hv : v = acc (at20 k)) (hp : p = Scalar.addf v (Scalar.mulf w (countBelow G k))) :
    p = next w G acc (at20 k) := by
  rw [hp, hv, slot_count G k hk]
  rfl

/-- Slot `10 + k` after a point, a sum of squares, from what it held before. -/
theorem at_squares {w : F .f32} {G : FVec F S512x512 .f32} {acc : Vec F S20 .f32} (k : ℕ) (hk : k < 10)
    {v p : F .f32} (hv : v = acc (at20 (10 + k))) (hp : p = Scalar.addf v (Scalar.mulf w (squaresBelow G k))) :
    p = next w G acc (at20 (10 + k)) := by
  rw [hp, hv, slot_squares G k hk]
  rfl

section
variable (c : Dev nD) (i : grid0.Coords) (arg3 : Memref sig .tc .vmem S512x64 .f32) (harg3 : arg3.IsWhole)
  (arg4 : Memref sig .tc .vmem S512x64 .f32) (harg4 : arg4.IsWhole) (arg5 : Memref sig .tc .vmem S512x1 .i32)
  (harg5 : arg5.IsWhole) (arg6 : Memref sig .tc .vmem S1x512 .i32) (harg6 : arg6.IsWhole)
  (arg7 : Memref sig .tc .smem S1x1 .f32) (harg7 : arg7.IsWhole) (arg8 : Memref sig .tc .smem S20 .f32)
  (harg8 : arg8.IsWhole)
  (x0 : Vec F S512x64 .f32) (x1 : Vec F S512x64 .f32) (x2 : Vec F S512x1 .i32) (x3 : Vec F S1x512 .i32)
  (xt0 : TbBuf0 (F := F) c tbM0_0) (xt1 : TbBuf0 (F := F) c tbM0_1) (xs0 : Vec F S20 .f32)

/-- The block of norms a point computes is that of its four input blocks. -/
theorem norms_eq : kernelRun0_B.sl.r_3 c arg3 harg3 arg4 harg4 arg5 harg5 arg6 harg6 x0 x1 x2 x3 = k0_pay10 x0 x1 x2 x3 := by
  have e0 : View.readAt (Elt F) arg3.view (Rect.unit (s := S512x64) ![0, 0] S512x64.size inb_S512x64_S512x64_0_0).toLoadRect (harg3.unread x0) = x0 :=
    funext fun x => (harg3.readAt_unread x0 _ x).trans (congrArg x0 (funext fun a => Fin.ext (by
      show (![0, 0] : Fin 2 → ℕ) a + 1 * (x a).val = (x a).val
      fin_cases a <;> simp)))
  have e1 : View.readAt (Elt F) arg4.view (Rect.unit (s := S512x64) ![0, 0] S512x64.size inb_S512x64_S512x64_0_0).toLoadRect (harg4.unread x1) = x1 :=
    funext fun x => (harg4.readAt_unread x1 _ x).trans (congrArg x1 (funext fun a => Fin.ext (by
      show (![0, 0] : Fin 2 → ℕ) a + 1 * (x a).val = (x a).val
      fin_cases a <;> simp)))
  have e2 : View.readAt (Elt F) arg5.view (Rect.unit (s := S512x1) ![0, 0] S512x1.size inb_S512x1_S512x1_0_0).toLoadRect (harg5.unread x2) = x2 :=
    funext fun x => (harg5.readAt_unread x2 _ x).trans (congrArg x2 (funext fun a => Fin.ext (by
      show (![0, 0] : Fin 2 → ℕ) a + 1 * (x a).val = (x a).val
      fin_cases a <;> simp)))
  have e3 : View.readAt (Elt F) arg6.view (Rect.unit (s := S1x512) ![0, 0] S1x512.size inb_S1x512_S1x512_0_0).toLoadRect (harg6.unread x3) = x3 :=
    funext fun x => (harg6.readAt_unread x3 _ x).trans (congrArg x3 (funext fun a => Fin.ext (by
      show (![0, 0] : Fin 2 → ℕ) a + 1 * (x a).val = (x a).val
      fin_cases a <;> simp)))
  unfold kernelRun0_B.sl.r_3
  rw [e0, e1, e2, e3]

/-- The weight of a point, from the two tables. -/
def weight : F .f32 := kernelRun0_B.sl.r_2 c i xt0 xt1

end

end Cert.KernelIdeal.Hand

end
-- ==== Proof.Loss.lean ====
/- The loss as plain mathematics: numbers sorted into ten bins, how many fall into each bin, and the sum of their
   squares. -/
module

public import Mathlib.Data.EReal.Operations
public import Mathlib.Algebra.BigOperators.Group.Finset.Basic
public import Mathlib.Algebra.BigOperators.Ring.Finset
public import Mathlib.Algebra.Order.BigOperators.Group.Finset
public import Mathlib.Tactic.Ring
public import Mathlib.Tactic.Linarith
public import Mathlib.Tactic.Positivity
public import Mathlib.Tactic.FieldSimp

@[expose] public section

noncomputable section

namespace Cert.Plain

open Classical in
/-- One if the statement holds, else zero. -/
def ind (p : Prop) : ℝ := if p then 1 else 0

/-- The indicator of what holds is one. -/
theorem ind_true {p : Prop} (h : p) : ind p = 1 := if_pos h
/-- The indicator of what does not hold is zero. -/
theorem ind_false {p : Prop} (h : ¬p) : ind p = 0 := if_neg h
/-- An indicator is at least zero. -/
theorem ind_nonneg (p : Prop) : 0 ≤ ind p := by unfold ind; split <;> norm_num

/-- A sum of real numbers, read among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

variable (E : ℕ → EReal)

/-- The number `x` falls into bin `k`: it is at least the bin's lower edge and below its upper edge. -/
def InBin (k : ℕ) (x : EReal) : Prop := E k ≤ x ∧ x < E (k + 1)

variable {ι : Type} [Fintype ι] (g : ι → EReal)

/-- How many of the numbers fall into bin `k`. -/
def count (k : ℕ) : ℝ := ∑ i, ind (InBin E k (g i))

/-- The sum of the squares of the numbers that fall into bin `k`. -/
def squares (k : ℕ) : ℝ := ∑ i, ind (InBin E k (g i)) * (g i).toReal ^ 2

/-- How many of the numbers lie below edge `k`. -/
def numBelow (k : ℕ) : ℝ := ∑ i, ind (g i < E k)

/-- The sum of the squares of the numbers that lie below edge `k`. -/
def sqBelow (k : ℕ) : ℝ := ∑ i, ind (g i < E k) * (g i).toReal ^ 2

/-- How many of the numbers fall into any of the ten bins. -/
def valid : ℝ := ∑ k ∈ Finset.range 10, count E g k

/-- The loss: the mean over the bins' numbers of the square, each divided by its bin's count (weighted by `h` and kept
    off zero by `ε`). -/
def loss (h ε : ℝ) : ℝ :=
  (∑ k ∈ Finset.range 10, squares E g k / (h * count E g k + ε)) / valid E g

variable {E g}

/-- A count is at least zero. -/
theorem count_nonneg (k : ℕ) : 0 ≤ count E g k := Finset.sum_nonneg fun _ _ => ind_nonneg _

/-- The number of numbers in any bin is at least zero. -/
theorem valid_nonneg : 0 ≤ valid E g := Finset.sum_nonneg fun _ _ => count_nonneg _

/-- Falling into a bin is lying below its upper edge and not below its lower one. -/
theorem ind_inBin {k : ℕ} (hE : E k ≤ E (k + 1)) (x : EReal) : ind (InBin E k x) = ind (x < E (k + 1)) - ind (x < E k) := by
  by_cases h1 : x < E k
  · rw [ind_true h1, ind_true (h1.trans_le hE), ind_false fun h => absurd h.1 (not_le.mpr h1)]; norm_num
  · rw [ind_false h1]
    by_cases h2 : x < E (k + 1)
    · rw [ind_true h2, ind_true ⟨not_lt.mp h1, h2⟩]; norm_num
    · rw [ind_false h2, ind_false fun h => h2 h.2]; norm_num

/-- A bin's count is the difference of the counts below its edges. -/
theorem count_eq {k : ℕ} (hE : E k ≤ E (k + 1)) : count E g k = numBelow E g (k + 1) - numBelow E g k := by
  unfold count numBelow
  rw [← Finset.sum_sub_distrib]
  exact Finset.sum_congr rfl fun i _ => ind_inBin hE (g i)

/-- A bin's sum of squares is the difference of the sums below its edges. -/
theorem squares_eq {k : ℕ} (hE : E k ≤ E (k + 1)) : squares E g k = sqBelow E g (k + 1) - sqBelow E g k := by
  unfold squares sqBelow
  rw [← Finset.sum_sub_distrib]
  exact Finset.sum_congr rfl fun i _ => by rw [ind_inBin hE (g i), sub_mul]

/-- Nothing lies below the first edge. -/
theorem numBelow_zero (hg : ∀ i, E 0 ≤ g i) : numBelow E g 0 = 0 :=
  Finset.sum_eq_zero fun i _ => ind_false (not_lt.mpr (hg i))

/-- No squares lie below the first edge. -/
theorem sqBelow_zero (hg : ∀ i, E 0 ≤ g i) : sqBelow E g 0 = 0 :=
  Finset.sum_eq_zero fun i _ => by rw [ind_false (not_lt.mpr (hg i)), zero_mul]

/-- The bins' counts together are the count below the last edge. -/
theorem valid_eq (hE : ∀ k < 10, E k ≤ E (k + 1)) (hg : ∀ i, E 0 ≤ g i) : valid E g = numBelow E g 10 := by
  unfold valid
  rw [Finset.sum_congr rfl fun k hk => count_eq (hE k (Finset.mem_range.mp hk)), Finset.sum_range_sub, numBelow_zero hg, sub_zero]

/-- The weight that the first `n` bins give a number: the last bin it falls into decides. -/
def pick (w : ℕ → ℝ) : ℕ → EReal → ℝ
  | 0, _ => 0
  | n + 1, x => open Classical in if InBin E n x then w n else pick w n x

/-- Increasing edges lie below the last of them. -/
theorem edge_mono {n : ℕ} (hE : ∀ k < n, E k ≤ E (k + 1)) : ∀ k, k ≤ n → E k ≤ E n := by
  induction n with
  | zero => intro k hk; rw [Nat.le_zero.mp hk]
  | succ n ih =>
    intro k hk
    rcases Nat.lt_or_ge k (n + 1) with h | h
    · exact (ih (fun k hk => hE k (by omega)) k (by omega)).trans (hE n (by omega))
    · rw [le_antisymm hk h]

open Classical in
/-- The bins are disjoint, so the weight is the sum over the bins. -/
theorem pick_eq (w : ℕ → ℝ) (n : ℕ) (hE : ∀ k < n, E k ≤ E (k + 1)) (x : EReal) :
    pick (E := E) w n x = ∑ k ∈ Finset.range n, ind (InBin E k x) * w k := by
  induction n with
  | zero => rfl
  | succ n ih =>
    rw [Finset.sum_range_succ, ← ih fun k hk => hE k (by omega)]
    show (if InBin E n x then w n else pick w n x) = _
    by_cases h : InBin E n x
    · rw [if_pos h, ind_true h, one_mul, ih fun k hk => hE k (by omega), Finset.sum_eq_zero, zero_add]
      intro k hk
      have hk := Finset.mem_range.mp hk
      have hle := edge_mono (fun j hj => hE j (by omega)) (k + 1) (show k + 1 ≤ n by omega)
      rw [ind_false fun hb => absurd (hb.2.trans_le hle) (not_lt.mpr h.1), zero_mul]
    · rw [if_neg h, ind_false h, zero_mul, add_zero]

open Classical in
/-- The square of a number times its weight is a real number: a number in a bin is finite, and outside the bins the weight
    is zero. -/
theorem square_mul_pick (w : ℕ → ℝ) (s : ℝ) (n : ℕ) {x : EReal} (hx : 0 ≤ x) :
    x * x * ((pick (E := E) w n x * s : ℝ) : EReal) = ((x.toReal ^ 2 * (pick (E := E) w n x * s) : ℝ) : EReal) := by
  rcases eq_or_ne x ⊤ with rfl | ht
  · have h0 : pick (E := E) w n ⊤ = 0 := by
      induction n with
      | zero => rfl
      | succ n ih => exact (if_neg fun h => not_top_lt h.2).trans ih
    rw [h0]; simp
  · obtain ⟨r, rfl⟩ : ∃ r : ℝ, (r : EReal) = x := ⟨x.toReal, EReal.coe_toReal ht (fun h => by rw [h] at hx; exact absurd hx (by simp))⟩
    rw [EReal.toReal_coe, ← EReal.coe_mul, ← EReal.coe_mul, sq]

/-- The weighted squares of all the numbers, summed: the loss's numerator, bin by bin. -/
theorem sum_pick (w : ℕ → ℝ) (s : ℝ) (hE : ∀ k < 10, E k ≤ E (k + 1)) :
    ∑ i, (g i).toReal ^ 2 * (pick (E := E) w 10 (g i) * s) = (∑ k ∈ Finset.range 10, squares E g k * w k) * s := by
  simp only [pick_eq w 10 hE, squares, Finset.sum_mul, Finset.mul_sum]
  rw [Finset.sum_comm]
  exact Finset.sum_congr rfl fun k _ => Finset.sum_congr rfl fun i _ => by ring

/-- When no number falls into a bin the bins' sums of squares vanish. -/
theorem squares_zero {k : ℕ} (h : count E g k = 0) : squares E g k = 0 := by
  have hz := (Finset.sum_eq_zero_iff_of_nonneg fun i _ => ind_nonneg (InBin E k (g i))).mp h
  exact Finset.sum_eq_zero fun i hi => by rw [hz i hi, zero_mul]

/-- When no number falls into any bin, each count is zero. -/
theorem count_zero (hv : ¬0 < valid E g) {k : ℕ} (hk : k < 10) : count E g k = 0 :=
  (Finset.sum_eq_zero_iff_of_nonneg fun k _ => count_nonneg k).mp (le_antisymm (not_lt.mp hv) valid_nonneg) k (Finset.mem_range.mpr hk)

end Cert.Plain

end
-- ==== Proof.Gap.lean ====
/- The entries of the loss's table: how far the cosine of two rows lies from one (equal labels) or zero (else). -/
module

public import Idealize.ShloMosaic.PureOps.Ideal.Laws
public import Idealize.ShloMosaic.Lib.IdealHost
public import proofs.«01_k».proof.Proof.Loss
public import proofs.«01_k».proof.Proof.Edges

@[expose] public section

noncomputable section

namespace Cert.Plain

open Idealize.ShloMosaic

variable (X : Fin 4096 → Fin 64 → EReal) (T : Fin 4096 → BitVec 32)

/-- Row `i` divided by its length (kept off zero), at column `k`. -/
def unit (i : Fin 4096) (k : Fin 64) : EReal :=
  Ideal.div (X i k) (max (Ideal.sqrt (∑ k, X i k * X i k)) (Ideal.ofBits .f32 0x2B8CBCCC#32))

/-- The cosine of rows `i` and `j`. -/
def cosine (i j : Fin 4096) : EReal := ∑ k, unit X i k * unit X j k

/-- One when the two labels agree, else zero. -/
def label (i j : Fin 4096) : ℝ := ind (T i = T j)

/-- How far the cosine lies from the label. -/
def gap (i j : Fin 4096) : EReal := max (cosine X i j - (label T i j : EReal)) (-(cosine X i j - (label T i j : EReal)))

/-- The table of gaps is symmetric. -/
theorem gap_comm (i j : Fin 4096) : gap X T i j = gap X T j i := by
  have hc : cosine X i j = cosine X j i := Finset.sum_congr rfl fun k _ => mul_comm _ _
  have hl : label T i j = label T j i := congrArg ind (propext eq_comm)
  unfold gap
  rw [hc, hl]

/-- A gap is at least zero. -/
theorem gap_nonneg (i j : Fin 4096) : edge 0 ≤ gap X T i j := by
  rcases le_total 0 (cosine X i j - (label T i j : EReal)) with h | h
  · exact h.trans (le_max_left _ _)
  · exact (EReal.neg_nonneg.mpr h).trans (le_max_right _ _)

/-- The square of the label less the cosine is the square of the gap. -/
theorem gap_sq (i j : Fin 4096) :
    ((label T i j : EReal) - cosine X i j) * ((label T i j : EReal) - cosine X i j) = gap X T i j * gap X T i j := by
  unfold gap
  generalize label T i j = l
  generalize cosine X i j = c
  have hn : (l : EReal) - c = -(c - (l : EReal)) :=
    (EReal.neg_sub (Or.inr (EReal.coe_ne_bot l)) (Or.inr (EReal.coe_ne_top l))).symm ▸ by rw [add_comm, sub_eq_add_neg]
  rw [hn]
  rcases le_total (c - (l : EReal)) (-(c - (l : EReal))) with h | h
  · rw [max_eq_right h]
  · rw [max_eq_left h, neg_mul_neg]

/-- The one-bit answer to whether two labels agree, as a number. -/
theorem label_word (a b : BitVec 32) : ((BitVec.ofBool (a == b)).toNat : ℝ) = ind (a = b) := by
  by_cases h : a = b
  · rw [ind_true h]; simp [h]
  · rw [ind_false h]; simp [h]

end Cert.Plain

end
-- ==== Proof.Finish.lean ====
/- The last step of the idealised body: from accumulators that hold the counts and the sums of squares below each edge,
   the loss. -/
module

public import proofs.«01_k».proof.Proof.Body
public import proofs.«01_k».proof.Proof.Gap
public import Idealize.ShloMosaic.Lib.Pointwise

@[expose] public section

set_option maxRecDepth 16384

noncomputable section

namespace Cert.Plain

open Idealize.ShloMosaic

/-- A quotient of real numbers with a divisor other than zero. -/
theorem div_coe (a : ℝ) {b : ℝ} (hb : b ≠ 0) : Ideal.div (a : EReal) (b : EReal) = ((a / b : ℝ) : EReal) := by
  unfold Ideal.div
  rw [if_neg (fun h => hb (EReal.coe_eq_zero.mp h)), ← EReal.coe_inv, ← EReal.coe_mul, div_eq_mul_inv]

/-- A one-bit answer is one exactly when the statement holds. -/
theorem bit_iff (p : Prop) [Decidable p] : BitVec.ofBool (decide p) = 1#1 ↔ p := by
  by_cases h : p <;> simp [h]

end Cert.Plain

namespace Cert.KernelIdeal.Hand

open Cert.KernelIdeal Cert.KernelIdeal.Gen Cert.Plain
open Idealize.ShloMosaic Idealize.ShloMosaic.TcCoe

variable {ι : Type} [Fintype ι] {g : ι → EReal} (hg : ∀ i, edge 0 ≤ g i)
variable {acc : Vec Ideal S20 .f32}
variable (hc : ∀ k < 10, acc (at20 k) = (numBelow edge g (k + 1) : EReal))
variable (hs : ∀ k < 10, acc (at20 (10 + k)) = (sqBelow edge g (k + 1) : EReal))

include hg hc in
/-- The difference of neighbouring count slots is a bin's count. -/
theorem less_count {k : ℕ} (hk : k < 10) : less acc 0 k = (count edge g k : EReal) := by
  rw [count_eq (edge_le k hk), EReal.coe_sub, ← hc k hk]
  cases k with
  | zero =>
    rw [numBelow_zero hg]
    show acc (at20 0) - Ideal.ofBits .f32 0x00000000#32 = _
    rw [Ideal.ofBits_zero_f32]
    rfl
  | succ k =>
    rw [← hc k (by omega)]
    show acc (at20 (0 + (k + 1))) - acc (at20 (0 + k)) = _
    rw [Nat.zero_add, Nat.zero_add]

include hg hs in
/-- The difference of neighbouring square slots is a bin's sum of squares. -/
theorem less_squares {k : ℕ} (hk : k < 10) : less acc 10 k = (squares edge g k : EReal) := by
  rw [squares_eq (edge_le k hk), EReal.coe_sub, ← hs k hk]
  cases k with
  | zero =>
    rw [sqBelow_zero hg]
    show acc (at20 10) - Ideal.ofBits .f32 0x00000000#32 = _
    rw [Ideal.ofBits_zero_f32]
    rfl
  | succ k =>
    rw [← hs k (by omega)]
    rfl

/-- The divisor of a bin's share is positive. -/
theorem divisor_pos (k : ℕ) : 0 < 1 / 2 * count edge g k + eps :=
  add_pos_of_nonneg_of_pos (mul_nonneg (by norm_num) (count_nonneg k)) eps_pos

include hg hc hs in
/-- A bin's share of the loss. -/
theorem share_eq {k : ℕ} (hk : k < 10) :
    share acc k = ((squares edge g k / (1 / 2 * count edge g k + eps) : ℝ) : EReal) := by
  show Ideal.div (less acc 10 k) (Ideal.ofBits .f32 0x3F000000#32 * less acc 0 k + Ideal.ofBits .f32 0x358637BD#32) = _
  rw [less_squares hg hs hk, less_count hg hc hk, half_eq, eps_eq, ← EReal.coe_mul, ← EReal.coe_add, div_coe _ (divisor_pos k).ne']

include hg hc hs in
/-- The shares of the first `n` bins, summed. -/
theorem shares_eq (n : ℕ) (hn : n ≤ 10) :
    shares acc n = ((∑ k ∈ Finset.range n, squares edge g k / (1 / 2 * count edge g k + eps) : ℝ) : EReal) := by
  induction n with
  | zero =>
    show Ideal.ofBits .f32 0x00000000#32 = _
    rw [Ideal.ofBits_zero_f32]
    simp
  | succ n ih =>
    rw [Finset.sum_range_succ, EReal.coe_add, ← ih (by omega), ← share_eq hg hc hs (by omega)]
    rfl

include hg hc hs in
/-- What the last step makes of the accumulators. -/
theorem finish_eq : finish acc = (loss edge g (1 / 2) eps : EReal) := by
  show (if Ideal.cmp .ogt (acc (at20 9)) (Ideal.ofBits .f32 0x00000000#32) = 1#1 then
    Ideal.div (shares acc 10) (acc (at20 9)) else Ideal.ofBits .f32 0x00000000#32) = _
  rw [Ideal.ofBits_zero_f32, shares_eq hg hc hs 10 le_rfl, hc 9 (by norm_num), ← valid_eq edge_le hg]
  unfold Ideal.cmp
  by_cases hv : 0 < valid edge g
  · rw [if_pos ((bit_iff _).mpr (EReal.coe_pos.mpr hv)), div_coe _ hv.ne']
    rfl
  · rw [if_neg fun h => hv (EReal.coe_pos.mp ((bit_iff _).mp h))]
    unfold loss
    rw [le_antisymm (not_lt.mp hv) valid_nonneg, div_zero, EReal.coe_zero]

end Cert.KernelIdeal.Hand

end
-- ==== Proof.Symm.lean ====
/- Summing a symmetric table by square blocks: the blocks on the diagonal once and those above it twice give the sum of
   all entries. -/
module

public import Mathlib.Algebra.BigOperators.Fin
public import Mathlib.Data.Real.Basic
public import Mathlib.Tactic.Ring
public import Mathlib.Logic.Equiv.Fin.Basic

@[expose] public section

noncomputable section

namespace Cert.Plain

/-- Place `r` of block `a`. -/
def place (a : Fin 8) (r : Fin 512) : Fin 4096 := ⟨512 * a.val + r.val, by omega⟩

/-- A sum over 4096 places, block by block. -/
theorem sum_place {M : Type} [AddCommMonoid M] (f : Fin 4096 → M) : ∑ i, f i = ∑ a : Fin 8, ∑ r : Fin 512, f (place a r) := by
  rw [← Fintype.sum_prod_type']
  exact (Fintype.sum_equiv (finProdFinEquiv (m := 8) (n := 512)) (fun p => f (place p.1 p.2)) f fun p => congrArg f
    (Fin.ext (by show 512 * p.1.val + p.2.val = p.2.val + 512 * p.1.val; omega))).symm

/-- The sum of the entries of block `(a, b)`. -/
def blockTotal (f : Fin 4096 → Fin 4096 → ℝ) (a b : Fin 8) : ℝ := ∑ r, ∑ s, f (place a r) (place b s)

/-- A symmetric table's block and its mirror image have the same sum. -/
theorem blockTotal_comm {f : Fin 4096 → Fin 4096 → ℝ} (hf : ∀ i j, f i j = f j i) (a b : Fin 8) :
    blockTotal f a b = blockTotal f b a := by
  unfold blockTotal
  rw [Finset.sum_comm]
  exact Finset.sum_congr rfl fun r _ => Finset.sum_congr rfl fun s _ => hf _ _

/-- A table is summed block by block. -/
theorem sum_blocks (f : Fin 4096 → Fin 4096 → ℝ) : ∑ i, ∑ j, f i j = ∑ a, ∑ b, blockTotal f a b := by
  rw [sum_place fun i => ∑ j, f i j]
  refine Finset.sum_congr rfl fun a _ => ?_
  rw [Finset.sum_congr rfl fun r _ => sum_place fun j => f (place a r) j, Finset.sum_comm]
  rfl

/-- The row block of pair `t`. -/
def rowBlock : Fin 36 → Fin 8 :=
  ![0, 0, 0, 0, 0, 0, 0, 0, 1, 1, 1, 1, 1, 1, 1, 2, 2, 2, 2, 2, 2, 3, 3, 3, 3, 3, 4, 4, 4, 4, 5, 5, 5, 6, 6, 7]

/-- The column block of pair `t`. -/
def colBlock : Fin 36 → Fin 8 :=
  ![0, 1, 2, 3, 4, 5, 6, 7, 1, 2, 3, 4, 5, 6, 7, 2, 3, 4, 5, 6, 7, 3, 4, 5, 6, 7, 4, 5, 6, 7, 5, 6, 7, 6, 7, 7]

/-- How often pair `t` counts: once on the diagonal, else twice. -/
def pairWeight (t : Fin 36) : ℝ := if rowBlock t = colBlock t then 1 else 2

/-- A symmetric table of 64 numbers, from its entries on and above the diagonal. -/
theorem sum_pairs (B : Fin 8 → Fin 8 → ℝ) (hB : ∀ a b, B a b = B b a) :
    ∑ t, pairWeight t * B (rowBlock t) (colBlock t) = ∑ a, ∑ b, B a b := by
  have h : B = fun a b => if a ≤ b then B a b else B b a := by
    funext a b; split
    · rfl
    · exact hB a b
  rw [h]
  simp [Fin.sum_univ_succ, pairWeight, rowBlock, colBlock]
  ring

/-- The 36 pairs of blocks, each weighted, give the sum over the whole symmetric table. -/
theorem sum_symm {f : Fin 4096 → Fin 4096 → ℝ} (hf : ∀ i j, f i j = f j i) :
    ∑ t, pairWeight t * blockTotal f (rowBlock t) (colBlock t) = ∑ i, ∑ j, f i j := by
  rw [sum_blocks]
  exact sum_pairs _ (blockTotal_comm hf)

end Cert.Plain

end
-- ==== Proof.Cell.lean ====
/- One block of the idealised body: its table of gaps, and what it adds to each slot of the accumulators. -/
module

public import proofs.«01_k».proof.Proof.Finish
public import proofs.«01_k».proof.Proof.Symm

@[expose] public section

set_option maxRecDepth 16384

noncomputable section

namespace Cert.KernelIdeal.Hand

open Cert.KernelIdeal Cert.KernelIdeal.Gen Cert.Plain
open Idealize.ShloMosaic Idealize.ShloMosaic.TcCoe

/-- A one-bit answer widened to a word, as a number. -/
theorem bit_toInt (p : Prop) [Decidable p] : (((BitVec.setWidth 32 (BitVec.ofBool (decide p))).toInt : ℝ) : EReal) = (ind p : EReal) := by
  by_cases h : p
  · rw [ind_true h]; simp [h]
  · rw [ind_false h]; simp [h]

section
variable (X : Fin 4096 → Fin 64 → EReal) (T : Fin 4096 → BitVec 32) (a b : Fin 8)
variable {x0 x1 : Vec Ideal S512x64 .f32} {x2 : Vec Ideal S512x1 .i32} {x3 : Vec Ideal S1x512 .i32}
variable (h0 : ∀ r k, x0 (ix2 r k) = X (place a r) k) (h1 : ∀ r k, x1 (ix2 r k) = X (place b r) k)
variable (h2 : ∀ r, x2 (ix2 r 0) = T (place a r)) (h3 : ∀ r, x3 (ix2 0 r) = T (place b r))

include h0 h1 h2 h3 in
/-- The block of norms is the table's block: entry `(r, s)` is the gap of row `r` of the row block and row `s` of the
    column block. -/
theorem norms_apply (r s : Fin 512) :
    k0_pay10 (F := Ideal) x0 x1 x2 x3 (ix2 r s) = gap X T (place a r) (place b s) := by
  have hl : (((BitVec.setWidth 32 (IntOp.cmpi .eq (T (place a r)) (T (place b s)))).toInt : ℝ) : EReal) = (label T (place a r) (place b s) : EReal) :=
    bit_toInt _
  unfold gap cosine unit
  rw [← hl]
  simp only [← h0, ← h1, ← h2, ← h3]
  pointwise [k0_pay10]
  rfl
end

variable {G : FVec Ideal S512x512 .f32} {f : Fin 512 → Fin 512 → EReal} (hG : ∀ r s, G (ix2 r s) = f r s)

/-- The sum of a block. -/
theorem blockSum_apply (v : FVec Ideal S512x512 .f32) : blockSum v = ∑ r, ∑ s, v (ix2 r s) := by
  pointwise [blockSum]

/-- A block's sum of real numbers, read among the extended reals. -/
theorem coe_sum_sum (u : Fin 512 → Fin 512 → ℝ) : ((∑ r, ∑ s, u r s : ℝ) : EReal) = ∑ r, ∑ s, (u r s : EReal) := by
  rw [coe_sum]
  exact Finset.sum_congr rfl fun r _ => coe_sum _ _

include hG in
/-- The count of a block's entries below an edge. -/
theorem countBelow_apply (k : ℕ) : countBelow G k = ((∑ r, ∑ s, ind (f r s < edge (k + 1)) : ℝ) : EReal) := by
  unfold countBelow
  rw [blockSum_apply, coe_sum_sum]
  refine Finset.sum_congr rfl fun r _ => Finset.sum_congr rfl fun s _ => ?_
  rw [← hG]
  exact bit_toInt _

include hG in
/-- The sum of the squares of a block's entries below an edge. -/
theorem squaresBelow_apply (hf : ∀ r s, 0 ≤ f r s) (k : ℕ) :
    squaresBelow G k = ((∑ r, ∑ s, ind (f r s < edge (k + 1)) * (f r s).toReal ^ 2 : ℝ) : EReal) := by
  unfold squaresBelow
  rw [blockSum_apply, coe_sum_sum]
  refine Finset.sum_congr rfl fun r _ => Finset.sum_congr rfl fun s _ => ?_
  show (if Ideal.cmp .olt (G (ix2 r s)) (edge (k + 1)) = 1#1 then G (ix2 r s) * G (ix2 r s) else Ideal.ofBits .f32 0x00000000#32) = _
  rw [hG, Ideal.ofBits_zero_f32]
  unfold Ideal.cmp
  by_cases h : f r s < edge (k + 1)
  · rw [if_pos ((bit_iff _).mpr h), ind_true h, one_mul]
    have ht : f r s ≠ ⊤ := fun e => not_top_lt (e ▸ h)
    have hb : f r s ≠ ⊥ := fun e => absurd (hf r s) (by rw [e]; simp)
    rw [sq, EReal.coe_mul, EReal.coe_toReal ht hb]
  · rw [if_neg fun e => h ((bit_iff _).mp e), ind_false h, zero_mul, EReal.coe_zero]

end Cert.KernelIdeal.Hand

end
-- ==== Proof.Blocks.lean ====
/- What the windows of the idealised program hold at a point: the blocks of the two arguments that the pair names. -/
module

public import proofs.«01_k».proof.Proof.TablesIdeal
public import proofs.«01_k».proof.Proof.Cell
public import Idealize.ShloMosaic.Lib.ValueLayout

@[expose] public section

set_option maxRecDepth 16384

noncomputable section

namespace Cert.KernelIdeal.Hand

open Cert.KernelIdeal Cert.KernelIdeal.Gen Cert.Plain
open Idealize.ShloMosaic Idealize.ShloMosaic.TcCoe

variable (m : (ℓ : Loc nD τ sig) → Buf (Elt Ideal) ℓ) (hO : Ok m) (c : Dev nD)

/-- The rows the program is given. -/
def rows (i : Fin 4096) (k : Fin 64) : EReal := m ((c : Thread nD τ).loc main_arg0) (ix2 i k)

/-- The labels the program is given. -/
def labels (i : Fin 4096) : BitVec 32 := m ((c : Thread nD τ).loc main_arg1) (ix1 i)

/-- The first prefetched table is the list of row blocks. -/
theorem lit0_toNat : ∀ k : Fin 36, (lit0 k).toNat = (rowBlock k).val := by decide +kernel

/-- The second is the list of column blocks. -/
theorem lit1_toNat : ∀ k : Fin 36, (lit1 k).toNat = (colBlock k).val := by decide +kernel

/-- The labels as a column, before the first point. -/
theorem V_column : V m c main_call0_v0 = shapeCast S4096x1 (m ((c : Thread nD τ).loc main_arg1)) shapeCasts_S4096_S4096x1 := by
  show StableHlo.after hostOps0 (fun b => m (c, b)) (Proc.devRef .tc main_call0_v0) = _
  unfold hostOps0
  after_results
  rfl

/-- The labels as a row, before the first point. -/
theorem V_row : V m c main_call0_v1 = shapeCast S1x4096 (m ((c : Thread nD τ).loc main_arg1)) shapeCasts_S4096_S1x4096 := by
  show StableHlo.after hostOps0 (fun b => m (c, b)) (Proc.devRef .tc main_call0_v1) = _
  unfold hostOps0
  after_results
  rfl

variable (t : Fin (cfgM m hO).N)

/-- The pair a point works on. -/
def pair : Fin 36 := grid0.coords t 0

/-- The first window holds the rows of the row block. -/
theorem block_zero (r : Fin 512) (k : Fin 64) :
    (iblk m hO c 0 t : Vec Ideal S512x64 .f32) (ix2 r k) = rows m c (place (rowBlock (pair m hO t)) r) k := by
  unfold iblk
  refine (View.read_apply ..).trans ?_
  refine (congrFun (V_main_arg0 m c) _).trans (congrArg (m ((c : Thread nD τ).loc main_arg0)) ?_)
  funext a
  apply Fin.ext
  match a with
  | ⟨0, _⟩ =>
    show cc0_transform_0 k0_off1_inb numel1_S1 (tbl m) (grid0.coords t) 0 * 512 + 1 * r.val = 512 * (rowBlock (pair m hO t)).val + r.val
    rw [transform_zero, ← lit0_toNat]
    show (lit0 (grid0.coords t 0)).toNat * 512 + 1 * r.val = 512 * (lit0 (grid0.coords t 0)).toNat + r.val
    omega
  | ⟨1, _⟩ =>
    show cc0_transform_0 k0_off1_inb numel1_S1 (tbl m) (grid0.coords t) 1 * 64 + 1 * k.val = k.val
    rw [transform_zero]
    show 0 * 64 + 1 * k.val = k.val
    omega

/-- The second window holds the rows of the column block. -/
theorem block_one (r : Fin 512) (k : Fin 64) :
    (iblk m hO c 1 t : Vec Ideal S512x64 .f32) (ix2 r k) = rows m c (place (colBlock (pair m hO t)) r) k := by
  unfold iblk
  refine (View.read_apply ..).trans ?_
  refine (congrFun (V_main_arg0 m c) _).trans (congrArg (m ((c : Thread nD τ).loc main_arg0)) ?_)
  funext a
  apply Fin.ext
  match a with
  | ⟨0, _⟩ =>
    show cc0_transform_1 k0_off1_inb numel1_S1 (tbl m) (grid0.coords t) 0 * 512 + 1 * r.val = 512 * (colBlock (pair m hO t)).val + r.val
    rw [transform_one, ← lit1_toNat]
    show (lit1 (grid0.coords t 0)).toNat * 512 + 1 * r.val = 512 * (lit1 (grid0.coords t 0)).toNat + r.val
    omega
  | ⟨1, _⟩ =>
    show cc0_transform_1 k0_off1_inb numel1_S1 (tbl m) (grid0.coords t) 1 * 64 + 1 * k.val = k.val
    rw [transform_one]
    show 0 * 64 + 1 * k.val = k.val
    omega

/-- The third window holds the labels of the row block. -/
theorem block_two (r : Fin 512) :
    (iblk m hO c 2 t : Vec Ideal S512x1 .i32) (ix2 r 0) = labels m c (place (rowBlock (pair m hO t)) r) := by
  unfold iblk
  refine (View.read_apply ..).trans ?_
  refine (congrFun (V_column m c) _).trans ?_
  refine Eq.trans (b := shapeCast S4096x1 (m ((c : Thread nD τ).loc main_arg1)) shapeCasts_S4096_S4096x1
    (ix2 (place (rowBlock (pair m hO t)) r) 0)) (congrArg (shapeCast S4096x1 (m ((c : Thread nD τ).loc main_arg1)) shapeCasts_S4096_S4096x1) ?_) ?_
  · funext a
    apply Fin.ext
    match a with
    | ⟨0, _⟩ =>
      show cc0_transform_2 k0_off1_inb numel1_S1 (tbl m) (grid0.coords t) 0 * 512 + 1 * r.val = 512 * (rowBlock (pair m hO t)).val + r.val
      rw [transform_two, ← lit0_toNat]
      show (lit0 (grid0.coords t 0)).toNat * 512 + 1 * r.val = 512 * (lit0 (grid0.coords t 0)).toNat + r.val
      omega
    | ⟨1, _⟩ =>
      show cc0_transform_2 k0_off1_inb numel1_S1 (tbl m) (grid0.coords t) 1 * 1 + 1 * 0 = 0
      rw [transform_two]
      rfl
  · pointwise
    rfl

/-- The fourth window holds the labels of the column block. -/
theorem block_three (r : Fin 512) :
    (iblk m hO c 3 t : Vec Ideal S1x512 .i32) (ix2 0 r) = labels m c (place (colBlock (pair m hO t)) r) := by
  unfold iblk
  refine (View.read_apply ..).trans ?_
  refine (congrFun (V_row m c) _).trans ?_
  refine Eq.trans (b := shapeCast S1x4096 (m ((c : Thread nD τ).loc main_arg1)) shapeCasts_S4096_S1x4096
    (ix2 0 (place (colBlock (pair m hO t)) r))) (congrArg (shapeCast S1x4096 (m ((c : Thread nD τ).loc main_arg1)) shapeCasts_S4096_S1x4096) ?_) ?_
  · funext a
    apply Fin.ext
    match a with
    | ⟨0, _⟩ =>
      show cc0_transform_3 k0_off1_inb numel1_S1 (tbl m) (grid0.coords t) 0 * 1 + 1 * 0 = 0
      rw [transform_three]
      rfl
    | ⟨1, _⟩ =>
      show cc0_transform_3 k0_off1_inb numel1_S1 (tbl m) (grid0.coords t) 1 * 512 + 1 * r.val = 512 * (colBlock (pair m hO t)).val + r.val
      rw [transform_three, ← lit1_toNat]
      show (lit1 (grid0.coords t 0)).toNat * 512 + 1 * r.val = 512 * (lit1 (grid0.coords t 0)).toNat + r.val
      omega
  · exact ValueIdx.shapeCast_a_1a_apply _ _ _ _

/-- The block of gaps at a point. -/
theorem norms_point (r s : Fin 512) :
    k0_pay10 (F := Ideal) (iblk m hO c 0 t) (iblk m hO c 1 t) (iblk m hO c 2 t) (iblk m hO c 3 t) (ix2 r s)
      = gap (rows m c) (labels m c) (place (rowBlock (pair m hO t)) r) (place (colBlock (pair m hO t)) s) :=
  norms_apply (rows m c) (labels m c) _ _ (block_zero m hO c t) (block_one m hO c t) (block_two m hO c t) (block_three m hO c t) r s

/-- The weight at a point. -/
theorem weight_point : weight (F := Ideal) c (grid0.coords t) (tbl m 0) (tbl m 1) = (pairWeight (pair m hO t) : EReal) := by
  have hw : weight (F := Ideal) c (grid0.coords t) (tbl m 0) (tbl m 1) = k0_pay9 (lit0 (pair m hO t)) (lit1 (pair m hO t)) := by
    exact congrArg₂ (k0_pay9 (F := Ideal)) ((congrFun (tbl_zero m) _).trans (congrArg lit0 (rowMajor_point (grid0.coords t))))
      ((congrFun (tbl_one m) _).trans (congrArg lit1 (rowMajor_point (grid0.coords t))))
  have he : lit0 (pair m hO t) = lit1 (pair m hO t) ↔ rowBlock (pair m hO t) = colBlock (pair m hO t) := by
    rw [← BitVec.toNat_inj, lit0_toNat, lit1_toNat, Fin.ext_iff]
  rw [hw]
  show (if BitVec.ofBool (decide (lit0 (pair m hO t) = lit1 (pair m hO t))) = 1#1 then Ideal.ofBits .f32 0x3F800000#32 else Ideal.ofBits .f32 0x40000000#32) = _
  rw [two_eq, Ideal.ofBits_one_f32]
  unfold pairWeight
  by_cases h : lit0 (pair m hO t) = lit1 (pair m hO t)
  · rw [if_pos ((bit_iff _).mpr h), if_pos (he.mp h), EReal.coe_one]
  · rw [if_neg fun e => h ((bit_iff _).mp e), if_neg fun e => h (he.mpr e)]

end Cert.KernelIdeal.Hand

end
-- ==== Proof.BodyFirst.lean ====
/- What the first point leaves in the accumulators. -/
module

public import proofs.«01_k».proof.Proof.Body
public import Idealize.ShloMosaic.Lib.Pipeline.ReadBack

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]

section
variable (c : Dev nD) (i : grid0.Coords) (arg3 : Memref sig .tc .vmem S512x64 .f32) (harg3 : arg3.IsWhole)
  (arg4 : Memref sig .tc .vmem S512x64 .f32) (harg4 : arg4.IsWhole) (arg5 : Memref sig .tc .vmem S512x1 .i32)
  (harg5 : arg5.IsWhole) (arg6 : Memref sig .tc .vmem S1x512 .i32) (harg6 : arg6.IsWhole)
  (arg7 : Memref sig .tc .smem S1x1 .f32) (harg7 : arg7.IsWhole) (arg8 : Memref sig .tc .smem S20 .f32)
  (harg8 : arg8.IsWhole)
  (x0 : Vec F S512x64 .f32) (x1 : Vec F S512x64 .f32) (x2 : Vec F S512x1 .i32) (x3 : Vec F S1x512 .i32)
  (xt0 : TbBuf0 (F := F) c tbM0_0) (xt1 : TbBuf0 (F := F) c tbM0_1) (xs0 : Vec F S20 .f32)

/-- The first point leaves its block added to zero. -/
theorem body_first (hc0 : cond0_0 i) (hc1 : ¬cond0_1 i) :
    sout0_A_0 c i arg3 harg3 arg4 harg4 arg5 harg5 arg6 harg6 arg7 harg7 arg8 harg8 hc0 hc1 x0 x1 x2 x3 xt0 xt1 = next (weight c i xt0 xt1) (k0_pay10 x0 x1 x2 x3) (fun _ => Scalar.ofBits .f32 0x00000000#32) := by
  rw [← norms_eq c arg3 harg3 arg4 harg4 arg5 harg5 arg6 harg6 x0 x1 x2 x3]
  funext y
  unfold sout0_A_0
  rw [View.read_writes_eq_canon VS0_0 _ _ (fun y => scover0_A_0 c i arg3 harg3 arg4 harg4 arg5 harg5 arg6 harg6 arg7 harg7 arg8 harg8 hc0 hc1 x0 x1 x2 x3 xt0 xt1 y),
    ← List.take_append_drop 20 (kernelRun0_A c i arg3 harg3 arg4 harg4 arg5 harg5 arg6 harg6 arg7 harg7 arg8 harg8 hc0 hc1 x0 x1 x2 x3 xt0 xt1).2.1]
  refine View.canon_append_of_piecesOf _ _ _ ?_ y
    (View.cover_of_tiledL (List.take 20 (kernelRun0_A c i arg3 harg3 arg4 harg4 arg5 harg5 arg6 harg6 arg7 harg7 arg8 harg8 hc0 hc1 x0 x1 x2 x3 xt0 xt1).2.1) S1.size (by sl_kernel_rfl) y)
  unfold kernelRun0_A
  dsimp only [List.take]
  refine ⟨?_, ?_, ?_, ?_, ?_, ?_, ?_, ?_, ?_, ?_, ?_, ?_, ?_, ?_, ?_, ?_, ?_, ?_, ?_, ?_, trivial⟩
  · exact slot_store _ 19 inb_S20_S1_19 _ (at_squares 9 (by decide) (rfl) rfl)
  · exact slot_store _ 9 inb_S20_S1_9 _ (at_count 9 (by decide) (rfl) rfl)
  · exact slot_store _ 18 inb_S20_S1_18 _ (at_squares 8 (by decide) (rfl) rfl)
  · exact slot_store _ 8 inb_S20_S1_8 _ (at_count 8 (by decide) (rfl) rfl)
  · exact slot_store _ 17 inb_S20_S1_17 _ (at_squares 7 (by decide) (rfl) rfl)
  · exact slot_store _ 7 inb_S20_S1_7 _ (at_count 7 (by decide) (rfl) rfl)
  · exact slot_store _ 16 inb_S20_S1_16 _ (at_squares 6 (by decide) (rfl) rfl)
  · exact slot_store _ 6 inb_S20_S1_6 _ (at_count 6 (by decide) (rfl) rfl)
  · exact slot_store _ 15 inb_S20_S1_15 _ (at_squares 5 (by decide) (rfl) rfl)
  · exact slot_store _ 5 inb_S20_S1_5 _ (at_count 5 (by decide) (rfl) rfl)
  · exact slot_store _ 14 inb_S20_S1_14 _ (at_squares 4 (by decide) (rfl) rfl)
  · exact slot_store _ 4 inb_S20_S1_4 _ (at_count 4 (by decide) (rfl) rfl)
  · exact slot_store _ 13 inb_S20_S1_13 _ (at_squares 3 (by decide) (rfl) rfl)
  · exact slot_store _ 3 inb_S20_S1_3 _ (at_count 3 (by decide) (rfl) rfl)
  · exact slot_store _ 12 inb_S20_S1_12 _ (at_squares 2 (by decide) (rfl) rfl)
  · exact slot_store _ 2 inb_S20_S1_2 _ (at_count 2 (by decide) (rfl) rfl)
  · exact slot_store _ 11 inb_S20_S1_11 _ (at_squares 1 (by decide) (rfl) rfl)
  · exact slot_store _ 1 inb_S20_S1_1 _ (at_count 1 (by decide) (rfl) rfl)
  · exact slot_store _ 10 inb_S20_S1_10 _ (at_squares 0 (by decide) (rfl) rfl)
  · exact slot_store _ 0 inb_S20_S1_0 _ (at_count 0 (by decide) (rfl) rfl)

end

end Cert.KernelIdeal.Hand

end
-- ==== Proof.BodyMiddle.lean ====
/- What a middle point leaves in the accumulators. -/
module

public import proofs.«01_k».proof.Proof.Body
public import Idealize.ShloMosaic.Lib.Pipeline.ReadBack

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]

section
variable (c : Dev nD) (i : grid0.Coords) (arg3 : Memref sig .tc .vmem S512x64 .f32) (harg3 : arg3.IsWhole)
  (arg4 : Memref sig .tc .vmem S512x64 .f32) (harg4 : arg4.IsWhole) (arg5 : Memref sig .tc .vmem S512x1 .i32)
  (harg5 : arg5.IsWhole) (arg6 : Memref sig .tc .vmem S1x512 .i32) (harg6 : arg6.IsWhole)
  (arg7 : Memref sig .tc .smem S1x1 .f32) (harg7 : arg7.IsWhole) (arg8 : Memref sig .tc .smem S20 .f32)
  (harg8 : arg8.IsWhole)
  (x0 : Vec F S512x64 .f32) (x1 : Vec F S512x64 .f32) (x2 : Vec F S512x1 .i32) (x3 : Vec F S1x512 .i32)
  (xt0 : TbBuf0 (F := F) c tbM0_0) (xt1 : TbBuf0 (F := F) c tbM0_1) (xs0 : Vec F S20 .f32)

/-- A middle point adds its block to the accumulators. -/
theorem body_middle (hc0 : ¬cond0_0 i) (hc1 : ¬cond0_1 i) :
    sout0_B_0 c i arg3 harg3 arg4 harg4 arg5 harg5 arg6 harg6 arg7 harg7 arg8 harg8 hc0 hc1 x0 x1 x2 x3 xt0 xt1 xs0 = next (weight c i xt0 xt1) (k0_pay10 x0 x1 x2 x3) xs0 := by
  rw [← norms_eq c arg3 harg3 arg4 harg4 arg5 harg5 arg6 harg6 x0 x1 x2 x3]
  conv_rhs => rw [← harg8.read_unread xs0]
  funext y
  refine View.read_writes_apply_of_pieces VS0_0 _ _ _ (View.PiecesOf.mem ?_) y (scover0_B_0 c i arg3 harg3 arg4 harg4 arg5 harg5 arg6 harg6 arg7 harg7 arg8 harg8 hc0 hc1 x0 x1 x2 x3 xt0 xt1 xs0 y)
  unfold kernelRun0_B
  dsimp only
  refine ⟨?_, ?_, ?_, ?_, ?_, ?_, ?_, ?_, ?_, ?_, ?_, ?_, ?_, ?_, ?_, ?_, ?_, ?_, ?_, ?_, trivial⟩
  · exact slot_store _ 19 inb_S20_S1_19 _ (at_squares 9 (by decide) (read_slot _ 19 inb_S20_S1_19 _) rfl)
  · exact slot_store _ 9 inb_S20_S1_9 _ (at_count 9 (by decide) (read_slot _ 9 inb_S20_S1_9 _) rfl)
  · exact slot_store _ 18 inb_S20_S1_18 _ (at_squares 8 (by decide) (read_slot _ 18 inb_S20_S1_18 _) rfl)
  · exact slot_store _ 8 inb_S20_S1_8 _ (at_count 8 (by decide) (read_slot _ 8 inb_S20_S1_8 _) rfl)
  · exact slot_store _ 17 inb_S20_S1_17 _ (at_squares 7 (by decide) (read_slot _ 17 inb_S20_S1_17 _) rfl)
  · exact slot_store _ 7 inb_S20_S1_7 _ (at_count 7 (by decide) (read_slot _ 7 inb_S20_S1_7 _) rfl)
  · exact slot_store _ 16 inb_S20_S1_16 _ (at_squares 6 (by decide) (read_slot _ 16 inb_S20_S1_16 _) rfl)
  · exact slot_store _ 6 inb_S20_S1_6 _ (at_count 6 (by decide) (read_slot _ 6 inb_S20_S1_6 _) rfl)
  · exact slot_store _ 15 inb_S20_S1_15 _ (at_squares 5 (by decide) (read_slot _ 15 inb_S20_S1_15 _) rfl)
  · exact slot_store _ 5 inb_S20_S1_5 _ (at_count 5 (by decide) (read_slot _ 5 inb_S20_S1_5 _) rfl)
  · exact slot_store _ 14 inb_S20_S1_14 _ (at_squares 4 (by decide) (read_slot _ 14 inb_S20_S1_14 _) rfl)
  · exact slot_store _ 4 inb_S20_S1_4 _ (at_count 4 (by decide) (read_slot _ 4 inb_S20_S1_4 _) rfl)
  · exact slot_store _ 13 inb_S20_S1_13 _ (at_squares 3 (by decide) (read_slot _ 13 inb_S20_S1_13 _) rfl)
  · exact slot_store _ 3 inb_S20_S1_3 _ (at_count 3 (by decide) (read_slot _ 3 inb_S20_S1_3 _) rfl)
  · exact slot_store _ 12 inb_S20_S1_12 _ (at_squares 2 (by decide) (read_slot _ 12 inb_S20_S1_12 _) rfl)
  · exact slot_store _ 2 inb_S20_S1_2 _ (at_count 2 (by decide) (read_slot _ 2 inb_S20_S1_2 _) rfl)
  · exact slot_store _ 11 inb_S20_S1_11 _ (at_squares 1 (by decide) (read_slot _ 11 inb_S20_S1_11 _) rfl)
  · exact slot_store _ 1 inb_S20_S1_1 _ (at_count 1 (by decide) (read_slot _ 1 inb_S20_S1_1 _) rfl)
  · exact slot_store _ 10 inb_S20_S1_10 _ (at_squares 0 (by decide) (read_slot _ 10 inb_S20_S1_10 _) rfl)
  · exact slot_store _ 0 inb_S20_S1_0 _ (at_count 0 (by decide) (read_slot _ 0 inb_S20_S1_0 _) rfl)

end

end Cert.KernelIdeal.Hand

end
-- ==== Proof.BodyLast.lean ====
/- What the last point leaves in the accumulators, and the loss it stores. -/
module

public import proofs.«01_k».proof.Proof.Body
public import Idealize.ShloMosaic.Lib.Pipeline.ReadBack

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]

section
variable (c : Dev nD) (i : grid0.Coords) (arg3 : Memref sig .tc .vmem S512x64 .f32) (harg3 : arg3.IsWhole)
  (arg4 : Memref sig .tc .vmem S512x64 .f32) (harg4 : arg4.IsWhole) (arg5 : Memref sig .tc .vmem S512x1 .i32)
  (harg5 : arg5.IsWhole) (arg6 : Memref sig .tc .vmem S1x512 .i32) (harg6 : arg6.IsWhole)
  (arg7 : Memref sig .tc .smem S1x1 .f32) (harg7 : arg7.IsWhole) (arg8 : Memref sig .tc .smem S20 .f32)
  (harg8 : arg8.IsWhole)
  (x0 : Vec F S512x64 .f32) (x1 : Vec F S512x64 .f32) (x2 : Vec F S512x1 .i32) (x3 : Vec F S1x512 .i32)
  (xt0 : TbBuf0 (F := F) c tbM0_0) (xt1 : TbBuf0 (F := F) c tbM0_1) (xs0 : Vec F S20 .f32)

/-- The last point adds its block to the accumulators. -/
theorem body_last (hc0 : ¬cond0_0 i) (hc1 : cond0_1 i) :
    sout0_C_0 c i arg3 harg3 arg4 harg4 arg5 harg5 arg6 harg6 arg7 harg7 arg8 harg8 hc0 hc1 x0 x1 x2 x3 xt0 xt1 xs0 = next (weight c i xt0 xt1) (k0_pay10 x0 x1 x2 x3) xs0 := by
  rw [← norms_eq c arg3 harg3 arg4 harg4 arg5 harg5 arg6 harg6 x0 x1 x2 x3]
  conv_rhs => rw [← harg8.read_unread xs0]
  funext y
  refine View.read_writes_apply_of_pieces VS0_0 _ _ _ (View.PiecesOf.mem ?_) y (scover0_C_0 c i arg3 harg3 arg4 harg4 arg5 harg5 arg6 harg6 arg7 harg7 arg8 harg8 hc0 hc1 x0 x1 x2 x3 xt0 xt1 xs0 y)
  unfold kernelRun0_C
  dsimp only
  refine ⟨?_, ?_, ?_, ?_, ?_, ?_, ?_, ?_, ?_, ?_, ?_, ?_, ?_, ?_, ?_, ?_, ?_, ?_, ?_, ?_, trivial⟩
  · exact slot_store _ 19 inb_S20_S1_19 _ (at_squares 9 (by decide) (read_slot _ 19 inb_S20_S1_19 _) rfl)
  · exact slot_store _ 9 inb_S20_S1_9 _ (at_count 9 (by decide) (read_slot _ 9 inb_S20_S1_9 _) rfl)
  · exact slot_store _ 18 inb_S20_S1_18 _ (at_squares 8 (by decide) (read_slot _ 18 inb_S20_S1_18 _) rfl)
  · exact slot_store _ 8 inb_S20_S1_8 _ (at_count 8 (by decide) (read_slot _ 8 inb_S20_S1_8 _) rfl)
  · exact slot_store _ 17 inb_S20_S1_17 _ (at_squares 7 (by decide) (read_slot _ 17 inb_S20_S1_17 _) rfl)
  · exact slot_store _ 7 inb_S20_S1_7 _ (at_count 7 (by decide) (read_slot _ 7 inb_S20_S1_7 _) rfl)
  · exact slot_store _ 16 inb_S20_S1_16 _ (at_squares 6 (by decide) (read_slot _ 16 inb_S20_S1_16 _) rfl)
  · exact slot_store _ 6 inb_S20_S1_6 _ (at_count 6 (by decide) (read_slot _ 6 inb_S20_S1_6 _) rfl)
  · exact slot_store _ 15 inb_S20_S1_15 _ (at_squares 5 (by decide) (read_slot _ 15 inb_S20_S1_15 _) rfl)
  · exact slot_store _ 5 inb_S20_S1_5 _ (at_count 5 (by decide) (read_slot _ 5 inb_S20_S1_5 _) rfl)
  · exact slot_store _ 14 inb_S20_S1_14 _ (at_squares 4 (by decide) (read_slot _ 14 inb_S20_S1_14 _) rfl)
  · exact slot_store _ 4 inb_S20_S1_4 _ (at_count 4 (by decide) (read_slot _ 4 inb_S20_S1_4 _) rfl)
  · exact slot_store _ 13 inb_S20_S1_13 _ (at_squares 3 (by decide) (read_slot _ 13 inb_S20_S1_13 _) rfl)
  · exact slot_store _ 3 inb_S20_S1_3 _ (at_count 3 (by decide) (read_slot _ 3 inb_S20_S1_3 _) rfl)
  · exact slot_store _ 12 inb_S20_S1_12 _ (at_squares 2 (by decide) (read_slot _ 12 inb_S20_S1_12 _) rfl)
  · exact slot_store _ 2 inb_S20_S1_2 _ (at_count 2 (by decide) (read_slot _ 2 inb_S20_S1_2 _) rfl)
  · exact slot_store _ 11 inb_S20_S1_11 _ (at_squares 1 (by decide) (read_slot _ 11 inb_S20_S1_11 _) rfl)
  · exact slot_store _ 1 inb_S20_S1_1 _ (at_count 1 (by decide) (read_slot _ 1 inb_S20_S1_1 _) rfl)
  · exact slot_store _ 10 inb_S20_S1_10 _ (at_squares 0 (by decide) (read_slot _ 10 inb_S20_S1_10 _) rfl)
  · exact slot_store _ 0 inb_S20_S1_0 _ (at_count 0 (by decide) (read_slot _ 0 inb_S20_S1_0 _) rfl)

/-- The last point stores the loss of the accumulators it leaves. -/
theorem body_out (hc0 : ¬cond0_0 i) (hc1 : cond0_1 i) :
    out0_C_4 c i arg3 harg3 arg4 harg4 arg5 harg5 arg6 harg6 arg7 harg7 arg8 harg8 hc0 hc1 x0 x1 x2 x3 xt0 xt1 xs0 = fun _ => finish (next (weight c i xt0 xt1) (k0_pay10 x0 x1 x2 x3) xs0) := by
  rw [← norms_eq c arg3 harg3 arg4 harg4 arg5 harg5 arg6 harg6 x0 x1 x2 x3]
  conv_rhs => rw [← harg8.read_unread xs0]
  funext y
  generalize ha : next (weight c i xt0 xt1) (kernelRun0_B.sl.r_3 c arg3 harg3 arg4 harg4 arg5 harg5 arg6 harg6 x0 x1 x2 x3)
    (View.read (Elt F) arg8.view (harg8.unread xs0)) = a
  suffices hp : View.PiecesOf (fun _ => finish a)
      (kernelRun0_C c i arg3 harg3 arg4 harg4 arg5 harg5 arg6 harg6 arg7 harg7 arg8 harg8 hc0 hc1 x0 x1 x2 x3 xt0 xt1 xs0).1 by
    exact View.read_writes_apply_of_pieces VO0_4 _ (fun _ => finish a) _ hp.mem y
      (cover0_C_4 c i arg3 harg3 arg4 harg4 arg5 harg5 arg6 harg6 arg7 harg7 arg8 harg8 hc0 hc1 x0 x1 x2 x3 xt0 xt1 xs0 y)
  unfold kernelRun0_C
  dsimp only
  refine ⟨fun _ => ?_, trivial⟩
  have e32 : kernelRun0_C.sl.r_32 c i arg3 harg3 arg4 harg4 arg5 harg5 arg6 harg6 arg8 harg8 x0 x1 x2 x3 xt0 xt1 xs0 = a (at20 9) :=
    (show _ = next _ _ _ (at20 9) from (at_count 9 (by decide) (read_slot _ 9 inb_S20_S1_9 _) rfl)).trans (congrFun ha (at20 9))
  have e48 : kernelRun0_C.sl.r_48 c i arg3 harg3 arg4 harg4 arg5 harg5 arg6 harg6 arg8 harg8 x0 x1 x2 x3 xt0 xt1 xs0 = a (at20 16) :=
    (show _ = next _ _ _ (at20 16) from (at_squares 6 (by decide) (read_slot _ 16 inb_S20_S1_16 _) rfl)).trans (congrFun ha (at20 16))
  have e49 : kernelRun0_C.sl.r_49 c i arg3 harg3 arg4 harg4 arg5 harg5 arg6 harg6 arg8 harg8 x0 x1 x2 x3 xt0 xt1 xs0 = a (at20 7) :=
    (show _ = next _ _ _ (at20 7) from (at_count 7 (by decide) (read_slot _ 7 inb_S20_S1_7 _) rfl)).trans (congrFun ha (at20 7))
  have e52 : kernelRun0_C.sl.r_52 c i arg3 harg3 arg4 harg4 arg5 harg5 arg6 harg6 arg8 harg8 x0 x1 x2 x3 xt0 xt1 xs0 = a (at20 17) :=
    (show _ = next _ _ _ (at20 17) from (at_squares 7 (by decide) (read_slot _ 17 inb_S20_S1_17 _) rfl)).trans (congrFun ha (at20 17))
  have e53 : kernelRun0_C.sl.r_53 c i arg3 harg3 arg4 harg4 arg5 harg5 arg6 harg6 arg8 harg8 x0 x1 x2 x3 xt0 xt1 xs0 = a (at20 8) :=
    (show _ = next _ _ _ (at20 8) from (at_count 8 (by decide) (read_slot _ 8 inb_S20_S1_8 _) rfl)).trans (congrFun ha (at20 8))
  have e54 : kernelRun0_C.sl.r_54 c i arg3 harg3 arg4 harg4 arg5 harg5 arg6 harg6 arg8 harg8 x0 x1 x2 x3 xt0 xt1 xs0 = a (at20 18) :=
    (show _ = next _ _ _ (at20 18) from (at_squares 8 (by decide) (read_slot _ 18 inb_S20_S1_18 _) rfl)).trans (congrFun ha (at20 18))
  have e55 : kernelRun0_C.sl.r_55 c i arg3 harg3 arg4 harg4 arg5 harg5 arg6 harg6 arg8 harg8 x0 x1 x2 x3 xt0 xt1 xs0 = a (at20 19) :=
    (show _ = next _ _ _ (at20 19) from (at_squares 9 (by decide) (read_slot _ 19 inb_S20_S1_19 _) rfl)).trans (congrFun ha (at20 19))
  have e33 : kernelRun0_C.sl.r_33 c i arg3 harg3 arg4 harg4 arg5 harg5 arg6 harg6 arg8 harg8 x0 x1 x2 x3 xt0 xt1 xs0 = a (at20 0) :=
    (show _ = next _ _ _ (at20 0) from (at_count 0 (by decide) (read_slot _ 0 inb_S20_S1_0 _) rfl)).trans (congrFun ha (at20 0))
  have e34 : kernelRun0_C.sl.r_34 c i arg3 harg3 arg4 harg4 arg5 harg5 arg6 harg6 arg8 harg8 x0 x1 x2 x3 xt0 xt1 xs0 = a (at20 10) :=
    (show _ = next _ _ _ (at20 10) from (at_squares 0 (by decide) (read_slot _ 10 inb_S20_S1_10 _) rfl)).trans (congrFun ha (at20 10))
  have e35 : kernelRun0_C.sl.r_35 c i arg3 harg3 arg4 harg4 arg5 harg5 arg6 harg6 arg8 harg8 x0 x1 x2 x3 xt0 xt1 xs0 = a (at20 1) :=
    (show _ = next _ _ _ (at20 1) from (at_count 1 (by decide) (read_slot _ 1 inb_S20_S1_1 _) rfl)).trans (congrFun ha (at20 1))
  have e9 : kernelRun0_C.sl.r_9 c i arg3 harg3 arg4 harg4 arg5 harg5 arg6 harg6 arg8 harg8 x0 x1 x2 x3 xt0 xt1 xs0 = a (at20 11) :=
    (show _ = next _ _ _ (at20 11) from (at_squares 1 (by decide) (read_slot _ 11 inb_S20_S1_11 _) rfl)).trans (congrFun ha (at20 11))
  have e36 : kernelRun0_C.sl.r_36 c i arg3 harg3 arg4 harg4 arg5 harg5 arg6 harg6 arg8 harg8 x0 x1 x2 x3 xt0 xt1 xs0 = a (at20 2) :=
    (show _ = next _ _ _ (at20 2) from (at_count 2 (by decide) (read_slot _ 2 inb_S20_S1_2 _) rfl)).trans (congrFun ha (at20 2))
  have e37 : kernelRun0_C.sl.r_37 c i arg3 harg3 arg4 harg4 arg5 harg5 arg6 harg6 arg8 harg8 x0 x1 x2 x3 xt0 xt1 xs0 = a (at20 12) :=
    (show _ = next _ _ _ (at20 12) from (at_squares 2 (by decide) (read_slot _ 12 inb_S20_S1_12 _) rfl)).trans (congrFun ha (at20 12))
  have e38 : kernelRun0_C.sl.r_38 c i arg3 harg3 arg4 harg4 arg5 harg5 arg6 harg6 arg8 harg8 x0 x1 x2 x3 xt0 xt1 xs0 = a (at20 3) :=
    (show _ = next _ _ _ (at20 3) from (at_count 3 (by decide) (read_slot _ 3 inb_S20_S1_3 _) rfl)).trans (congrFun ha (at20 3))
  have e39 : kernelRun0_C.sl.r_39 c i arg3 harg3 arg4 harg4 arg5 harg5 arg6 harg6 arg8 harg8 x0 x1 x2 x3 xt0 xt1 xs0 = a (at20 13) :=
    (show _ = next _ _ _ (at20 13) from (at_squares 3 (by decide) (read_slot _ 13 inb_S20_S1_13 _) rfl)).trans (congrFun ha (at20 13))
  have e43 : kernelRun0_C.sl.r_43 c i arg3 harg3 arg4 harg4 arg5 harg5 arg6 harg6 arg8 harg8 x0 x1 x2 x3 xt0 xt1 xs0 = a (at20 4) :=
    (show _ = next _ _ _ (at20 4) from (at_count 4 (by decide) (read_slot _ 4 inb_S20_S1_4 _) rfl)).trans (congrFun ha (at20 4))
  have e44 : kernelRun0_C.sl.r_44 c i arg3 harg3 arg4 harg4 arg5 harg5 arg6 harg6 arg8 harg8 x0 x1 x2 x3 xt0 xt1 xs0 = a (at20 14) :=
    (show _ = next _ _ _ (at20 14) from (at_squares 4 (by decide) (read_slot _ 14 inb_S20_S1_14 _) rfl)).trans (congrFun ha (at20 14))
  have e45 : kernelRun0_C.sl.r_45 c i arg3 harg3 arg4 harg4 arg5 harg5 arg6 harg6 arg8 harg8 x0 x1 x2 x3 xt0 xt1 xs0 = a (at20 5) :=
    (show _ = next _ _ _ (at20 5) from (at_count 5 (by decide) (read_slot _ 5 inb_S20_S1_5 _) rfl)).trans (congrFun ha (at20 5))
  have e46 : kernelRun0_C.sl.r_46 c i arg3 harg3 arg4 harg4 arg5 harg5 arg6 harg6 arg8 harg8 x0 x1 x2 x3 xt0 xt1 xs0 = a (at20 15) :=
    (show _ = next _ _ _ (at20 15) from (at_squares 5 (by decide) (read_slot _ 15 inb_S20_S1_15 _) rfl)).trans (congrFun ha (at20 15))
  have e47 : kernelRun0_C.sl.r_47 c i arg3 harg3 arg4 harg4 arg5 harg5 arg6 harg6 arg8 harg8 x0 x1 x2 x3 xt0 xt1 xs0 = a (at20 6) :=
    (show _ = next _ _ _ (at20 6) from (at_count 6 (by decide) (read_slot _ 6 inb_S20_S1_6 _) rfl)).trans (congrFun ha (at20 6))
  dsimp only
  unfold kernelRun0_C.sl.r_50 kernelRun0_C.sl.r_51 kernelRun0_C.sl.r_40 kernelRun0_C.sl.r_41 kernelRun0_C.sl.r_42
  rw [e32, e48, e49, e52, e53, e54, e55, e33, e34, e35, e9, e36, e37, e38, e39, e43, e44, e45, e46, e47]
  rfl

end

end Cert.KernelIdeal.Hand

end
-- ==== Proof.Fold.lean ====
/- The accumulators of the idealised program, point by point, and what it stores at the last point. -/
module

public import proofs.«01_k».proof.Proof.Blocks
public import proofs.«01_k».proof.Proof.BodyFirst
public import proofs.«01_k».proof.Proof.BodyMiddle
public import proofs.«01_k».proof.Proof.BodyLast

@[expose] public section

set_option maxRecDepth 16384

noncomputable section

namespace Cert.KernelIdeal.Hand

open Cert.KernelIdeal Cert.KernelIdeal.Gen Cert.Plain
open Idealize.ShloMosaic Idealize.ShloMosaic.TcCoe

section
variable {F : FTy → Type} [FloatOps F]
variable (m : (ℓ : Loc nD τ sig) → Buf (Elt F) ℓ) (hO : Ok m) (c : Dev nD)

/-- What a point makes of the accumulators before it. -/
def step (t : Fin (cfgM m hO).N) (acc : Vec F S20 .f32) : Vec F S20 .f32 :=
  next (weight c (grid0.coords t) (tbl m 0) (tbl m 1))
    (k0_pay10 (iblk m hO c 0 t) (iblk m hO c 1 t) (iblk m hO c 2 t) (iblk m hO c 3 t)) acc

/-- There are 36 points. -/
theorem size_eq : (cfgM m hO).N = 36 := N_0

/-- The first point steps from zero accumulators. -/
theorem acc_first (t : Fin (cfgM m hO).N) (h : t.val = 0) :
    (outsAt0 m hO c t.val t.isLt).2 = step m hO c t (fun _ => Scalar.ofBits .f32 0x00000000#32) := by
  rw [outsAt0_A m hO c t (by omega) (by omega)]
  dsimp only
  exact body_first (F := F) ..

/-- A later point steps from what the point before left. -/
theorem acc_later (t : Fin (cfgM m hO).N) (h : t.val ≠ 0) :
    (outsAt0 m hO c t.val t.isLt).2 = step m hO c t (outsAt0 m hO c (t.val - 1) (by omega)).2 := by
  have hN := lt_of_lt_of_eq t.isLt (size_eq m hO)
  by_cases h1 : t.val % 36 = 35
  · rw [outsAt0_C m hO c t (by omega) h1]
    dsimp only
    exact body_last (F := F) ..
  · rw [outsAt0_B m hO c t (by omega) h1]
    dsimp only
    exact body_middle (F := F) ..

/-- The last point stores the loss of its accumulators. -/
theorem out_last (t : Fin (cfgM m hO).N) (h : t.val = 35) :
    (outsAt0 m hO c t.val t.isLt).1 = fun _ => finish (outsAt0 m hO c t.val t.isLt).2 := by
  rw [acc_later m hO c t (by omega), outsAt0_C m hO c t (by omega) (by omega)]
  dsimp only
  exact body_out (F := F) ..
end

section
variable (m : (ℓ : Loc nD τ sig) → Buf (Elt Ideal) ℓ) (hO : Ok m) (c : Dev nD)

/-- What a point adds to slot `k`. -/
def part (t : Fin (cfgM m hO).N) (k : ℕ) : EReal :=
  weight (F := Ideal) c (grid0.coords t) (tbl m 0) (tbl m 1) * slot (k0_pay10 (F := Ideal) (iblk m hO c 0 t) (iblk m hO c 1 t) (iblk m hO c 2 t) (iblk m hO c 3 t)) k

/-- After point `n` slot `k` holds the sum of the parts of the points up to it. -/
theorem acc_sum (k : S20.Idx) : ∀ (n : ℕ) (h : n < (cfgM m hO).N),
    (outsAt0 m hO c n h).2 k = ∑ u : Fin (n + 1), part m hO c ⟨u.val, by omega⟩ (k 0).val
  | 0, h => by
    refine (congrFun (acc_first m hO c ⟨0, h⟩ rfl) k).trans ?_
    rw [Fin.sum_univ_one]
    show Ideal.ofBits .f32 0x00000000#32 + _ = _
    rw [Ideal.ofBits_zero_f32]
    exact zero_add _
  | n + 1, h => by
    refine (congrFun (acc_later m hO c ⟨n + 1, h⟩ (Nat.succ_ne_zero n)) k).trans ?_
    rw [Fin.sum_univ_castSucc]
    exact congrArg (· + part m hO c ⟨n + 1, h⟩ (k 0).val) (acc_sum k n (by omega))

/-- What a point adds to the slot of counts `k`: the weighted count of its block's gaps below edge `k + 1`. -/
theorem part_count (t : Fin (cfgM m hO).N) {k : ℕ} (hk : k < 10) :
    part m hO c t k = ((pairWeight (pair m hO t) * blockTotal (fun i j => ind (gap (rows m c) (labels m c) i j < edge (k + 1)))
      (rowBlock (pair m hO t)) (colBlock (pair m hO t)) : ℝ) : EReal) := by
  unfold part slot
  rw [if_pos hk, weight_point, countBelow_apply (norms_point m hO c t), ← EReal.coe_mul]
  rfl

/-- What a point adds to the slot of squares `k`: the weighted sum of the squares of its block's gaps below edge `k + 1`. -/
theorem part_squares (t : Fin (cfgM m hO).N) (k : ℕ) :
    part m hO c t (10 + k) = ((pairWeight (pair m hO t) * blockTotal (fun i j => ind (gap (rows m c) (labels m c) i j < edge (k + 1)) *
      (gap (rows m c) (labels m c) i j).toReal ^ 2) (rowBlock (pair m hO t)) (colBlock (pair m hO t)) : ℝ) : EReal) := by
  unfold part slot
  rw [if_neg (by omega), weight_point, Nat.add_sub_cancel_left, squaresBelow_apply (norms_point m hO c t) (fun r s => gap_nonneg _ _ _ _), ← EReal.coe_mul]
  rfl

/-- All points together: a symmetric table summed over its pairs of blocks is summed over all its entries. -/
theorem sum_points {f : Fin 4096 → Fin 4096 → ℝ} (hf : ∀ i j, f i j = f j i) (h : 35 < (cfgM m hO).N) :
    ∑ u : Fin (35 + 1), ((pairWeight (pair m hO ⟨u.val, by omega⟩) * blockTotal f (rowBlock (pair m hO ⟨u.val, by omega⟩))
      (colBlock (pair m hO ⟨u.val, by omega⟩)) : ℝ) : EReal) = ((∑ i, ∑ j, f i j : ℝ) : EReal) := by
  have hp : ∀ u : Fin 36, pair m hO ⟨u.val, lt_of_lt_of_eq u.isLt (size_eq m hO).symm⟩ = u := fun u => Fin.ext <| by
    have e : u.val / 1 % 36 = u.val := by rw [Nat.div_one, Nat.mod_eq_of_lt u.isLt]
    exact (Pipeline.Grid.coords_val (G := grid0) ⟨u.val, lt_of_lt_of_eq u.isLt (size_eq m hO).symm⟩ 0 (S := 1) (B := 36) (by decide) rfl).trans e
  rw [← sum_symm hf, coe_sum]
  exact Finset.sum_congr rfl fun u _ => by rw [hp u]

/-- The gaps as one family. -/
def gaps (X : Fin 4096 → Fin 64 → EReal) (T : Fin 4096 → BitVec 32) (p : Fin 4096 × Fin 4096) : EReal := gap X T p.1 p.2

/-- The last point stores the loss of the gaps. -/
theorem out_eq (t : Fin (cfgM m hO).N) (h : t.val = 35) :
    (outsAt0 m hO c t.val t.isLt).1 = fun _ => (loss edge (gaps (rows m c) (labels m c)) (1 / 2) eps : EReal) := by
  rw [out_last m hO c t h]
  funext _
  refine finish_eq (fun p => gap_nonneg _ _ _ _) (fun k hk => ?_) (fun k hk => ?_)
  · obtain ⟨n, hn⟩ := t
    obtain rfl : n = 35 := h
    rw [acc_sum]
    have e : ((at20 k) 0).val = k := Nat.mod_eq_of_lt (by omega)
    rw [e, Finset.sum_congr rfl fun u _ => part_count m hO c ⟨u.val, by omega⟩ hk,
      sum_points m hO (fun i j => by rw [gap_comm]) hn]
    unfold numBelow
    rw [Fintype.sum_prod_type]
  · obtain ⟨n, hn⟩ := t
    obtain rfl : n = 35 := h
    rw [acc_sum]
    have e : ((at20 (10 + k)) 0).val = 10 + k := Nat.mod_eq_of_lt (by omega)
    rw [e, Finset.sum_congr rfl fun u _ => part_squares m hO c ⟨u.val, by omega⟩ k,
      sum_points m hO (fun i j => by rw [gap_comm]) hn]
    unfold sqBelow
    rw [Fintype.sum_prod_type]
end

end Cert.KernelIdeal.Hand

end
-- ==== Proof.KRun.lean ====
/- The run of the idealised program, read: its result is the loss of the table of gaps, its arguments are kept. -/
module

public import proofs.«01_k».proof.Proof.Fold
public import proofs.«01_k».proof.Proof.TablesIdeal
public import Idealize.ShloMosaic.Lib.Pipeline.Value
public import Idealize.ShloMosaic.Lib.StableHlo.Run
public import Idealize.ShloMosaic.Lib.Tactic

@[expose] public section

set_option maxRecDepth 16384

noncomputable section

namespace Cert.KernelIdeal.Hand

open Cert.KernelIdeal Cert.KernelIdeal.Gen Cert.Plain
open Idealize.ShloMosaic Idealize.ShloMosaic.TcCoe Idealize.SL.Sem

variable (m : (ℓ : Loc nD τ sig) → Buf (Elt Ideal) ℓ) (ρ : Dev nD → PrngReg) (hO : Ok m) (c : Dev nD)

/-- The loss of the launch memory's rows and labels. -/
def lossOf : EReal := (loss edge (gaps (rows m c) (labels m c)) (1 / 2) eps : EReal)

/-- Only the last point writes the output window back. -/
theorem flush_last (t : Fin (cfgM m hO).N) (hf : ((cfgM m hO).win 4).flush t = true) : t.val = 35 := by
  have hN := lt_of_lt_of_eq t.isLt (size_eq m hO)
  by_contra h
  have h1 : ¬cond0_1 (grid0.coords t) := fun h1 => absurd ((hcond0_1 t).mp h1) (by omega)
  by_cases h0 : cond0_0 (grid0.coords t)
  · rw [noFlush0_4_A m hO t h0 h1] at hf; exact Bool.false_ne_true hf
  · rw [noFlush0_4_B m hO t h0 h1] at hf; exact Bool.false_ne_true hf

/-- What is written back is the loss. -/
theorem flushed_loss (t : Fin (cfgM m hO).N) (hf : ((cfgM m hO).win 4).flush t = true) :
    (dats m hO 0 c).flushed 4 t = (((cfgM m hO).win 4).blk t).view.read (Elt Ideal) (fun _ => lossOf m c) := by
  have h := flush_last m hO t hf
  show ((cfgM m hO).win 4).cut (grid0.coords t) ((dats m hO 0 c).after 4 t) = _
  rw [after0_4, out_eq m hO c t h]
  funext y
  refine Eq.trans ?_ (View.read_apply ..).symm
  rfl

/-- The last point. -/
def lastPoint : Fin (cfgM m hO).N := ⟨35, by rw [size_eq]; omega⟩

/-- The last point writes the output window back. -/
theorem flush_lastPoint : ((cfgM m hO).win 4).flush (lastPoint m hO) = true :=
  (by decide +kernel : ∀ t : Fin grid0.N, t.val = 35 → Pipeline.Window.flushOf grid0 true cc0_transform_4 t = true) ⟨35, by decide⟩ rfl

/-- The output window's array ends holding the loss. -/
theorem array_loss : (dats m hO 0 c).arrAt 4 (cfgM m hO).N = fun _ => lossOf m c :=
  (dats m hO 0 c).arrAt_eq_of_cover 4 (fun _ => lossOf m c) (flushed_loss m hO c) fun i =>
    ⟨lastPoint m hO, flush_lastPoint m hO, by
      show i ∈ ((View.whole main_call0_v2).slice (((cfgM m hO).win 4).rect (lastPoint m hO))).set
      refine (congrArg (i ∈ ·) (View.set_slice_whole ..)).mpr ?_
      refine Rect.mem_set_unit.mpr ?_
      intro a
      match a with
      | ⟨0, h⟩ => exact ⟨Nat.zero_le _, (i ⟨0, h⟩).isLt⟩
      | ⟨1, h⟩ => exact ⟨Nat.zero_le _, (i ⟨1, h⟩).isLt⟩⟩

/-- The result is the output window's array, reshaped. -/
theorem result_loss : Pipeline.afterTail pcfgs (fun _ => adm m hO) (dats m hO) 0 (V0 m) [hostOps1] c main_v0 = fun _ => lossOf m c := by
  unfold Pipeline.afterTail
  have hw : Pipeline.withArrays spec0 c (V0 m c) (fun w => (dats m hO 0 c).arrAt w (cfgM m hO).N) (Proc.devRef .tc main_call0_v2) = fun _ => lossOf m c :=
    (Pipeline.withArrays_arr_shared spec0 c (V0 m c) _ ((dats m hO 0 c).arrAt_sharedIn sharedIn0 (V0 m c) (A_eq m hO c) (cfgM m hO).N) 4).trans (array_loss m hO c)
  rw [List.flatten_singleton]
  unfold hostOps1
  after_results
  exact funext fun _ => congrFun hw _

/-- The run: the result is the loss, the arguments are kept. -/
theorem run : θ_run defs (onTc (τ := τ) (main (F := Ideal))) ⟨m, fun _ => 0, ρ⟩ fun r => ∀ c : Dev nD,
      r.2.mem ((c.tc : Thread nD τ).loc main_v0) = (fun _ => lossOf m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v0 (by decide : main_v0 ∈ Pipeline.restRefs sig spec0)).trans (result_loss m (ok m) c),
      ((h c).1 1).trans (((dats m (ok m) 0 c).arrAt_in 1 rfl _).trans ((A_eq m (ok m) c 1).trans (V_main_arg0 m c))),
      ((h c).2 main_arg1 (by decide : main_arg1 ∈ Pipeline.restRefs sig spec0)).trans (W_main_arg1 m (ok m) (dats m (ok m)) c)⟩)
    (run_main m ρ (ok m))

end Cert.KernelIdeal.Hand

end
-- ==== Proof.Bins.lean ====
/- The reference's operations on a table, bin by bin: the mask of a bin, its count, its weight. -/
module

public import proofs.«01_k».proof.Proof.Gen.ReferenceIdeal.Run
public import proofs.«01_k».proof.Proof.Finish
public import Idealize.ShloMosaic.Lib.Pointwise
public import Idealize.ShloMosaic.Lib.ValueIdx
public import Idealize.ShloMosaic.Lib.IndicatorCount

@[expose] public section

set_option maxRecDepth 16384

noncomputable section

namespace Cert.ReferenceIdeal.Hand

open Cert.ReferenceIdeal Cert.ReferenceIdeal.Gen Cert.Plain
open Idealize.ShloMosaic Idealize.ShloMosaic.TcCoe

/-- The word of the lower edge of bin `k`. -/
def lowWord : ℕ → BitVec 32
  | 0 => 0x00000000#32
  | k + 1 => edgeWord k

/-- The word of a lower edge is the edge. -/
theorem lowWord_value : ∀ k, Ideal.ofBits .f32 (lowWord k) = edge k
  | 0 => Ideal.ofBits_zero_f32
  | _ + 1 => rfl

variable (A : FVec Ideal S4096x4096 .f32)

/-- A number spread over a table. -/
abbrev spread (v : FVec Ideal S_ .f32) : FVec Ideal S4096x4096 .f32 := broadcastInDim S4096x4096 ![] bcast_S_S4096x4096 v

/-- Which entries of a table fall into bin `k`. -/
def mask (k : ℕ) : Vec Ideal S4096x4096 .i1 :=
  andi (cmpf .oge A (spread (constant (F := Ideal) S_ .f32 (lowWord k)))) (cmpf .olt A (spread (constant (F := Ideal) S_ .f32 (edgeWord k))))

/-- How many do. -/
def tally (M : Vec Ideal S4096x4096 .i1) : FVec Ideal S_ .f32 :=
  sitofp .f32 (Host.reduce IntOp.addi (extui 32 M natLt_1_32) (constantI S_ 32 0#32) reducesTo_S4096x4096_S_d0_1 h_S_)

/-- The weight of a bin with count `C`, where `z` was accumulated before. -/
def weightOf (z C : FVec Ideal S_ .f32) : FVec Ideal S_ .f32 :=
  Host.divf (constant S_ .f32 0x4B800000#32) (addf (addf (mulf (constant S_ .f32 0x3F000000#32) z) (mulf (constant S_ .f32 0x3F000000#32) C)) (constant S_ .f32 0x358637BD#32))

/-- A bin's mask is set exactly at the entries that fall into the bin. -/
theorem mask_iff (k : ℕ) (p : S4096x4096.Idx) : mask A k p = 1#1 ↔ InBin edge k (A p) := by
  show BitVec.ofBool (decide (Ideal.ofBits .f32 (lowWord k) ≤ A p)) &&& BitVec.ofBool (decide (A p < Ideal.ofBits .f32 (edgeWord k))) = 1#1 ↔ _
  rw [lowWord_value]
  unfold InBin
  by_cases h1 : edge k ≤ A p <;> by_cases h2 : A p < edge (k + 1) <;>
    simp [h1, h2, show Ideal.ofBits .f32 (edgeWord k) = edge (k + 1) from rfl]

/-- A reduction over both axes takes every entry. -/
theorem drop_all (i : S_.Idx) : (Finset.univ.filter fun p : S4096x4096.Idx => Gen.reducesTo_S4096x4096_S_d0_1.drop p = i) = Finset.univ :=
  Finset.filter_true_of_mem fun _ _ => funext fun a => a.elim0

/-- The indices of a table are the pairs of a row and a column. -/
def pairs : S4096x4096.Idx ≃ Fin 4096 × Fin 4096 where
  toFun p := (p 0, p 1)
  invFun q := ix2 q.1 q.2
  left_inv p := funext fun a => by
    match a with
    | ⟨0, _⟩ => rfl
    | ⟨1, _⟩ => rfl
  right_inv _ := rfl

/-- A table has 16777216 entries. -/
theorem card_idx : Fintype.card S4096x4096.Idx = 16777216 := by
  rw [Fintype.card_congr pairs, Fintype.card_prod, Fintype.card_fin]

/-- The tally of a bin's mask is the bin's count. -/
theorem tally_apply (k : ℕ) (i : S_.Idx) : tally (mask A k) i = (count edge A k : EReal) := by
  have hc : tally (mask A k) i = FloatOps.sitofp .f32 (Finset.fold IntOp.addi (0#32) (fun p => BitVec.setWidth 32 (mask A k p)) (Finset.univ.filter fun p : S4096x4096.Idx => Gen.reducesTo_S4096x4096_S_d0_1.drop p = i)) := by
    pointwise [tally]
  rw [hc, drop_all, IndicatorCount.fold_addi_setWidth_eq_card]
  have hle : (Finset.univ.filter fun p => mask A k p = 1#1).card ≤ 16777216 := (Finset.card_filter_le _ _).trans (le_of_eq (by rw [Finset.card_univ, card_idx]))
  have hn : (BitVec.ofNat 32 (Finset.univ.filter fun p => mask A k p = 1#1).card).toInt = ((Finset.univ.filter fun p => mask A k p = 1#1).card : ℤ) := by
    rw [BitVec.toInt_eq_toNat_of_lt (by rw [BitVec.toNat_ofNat, Nat.mod_eq_of_lt (by omega)]; omega), BitVec.toNat_ofNat, Nat.mod_eq_of_lt (by omega)]
  show (((BitVec.ofNat 32 (Finset.univ.filter fun p => mask A k p = 1#1).card).toInt : ℝ) : EReal) = _
  rw [hn]
  congr 1
  unfold Plain.count
  rw [Int.cast_natCast, Finset.card_filter, Nat.cast_sum]
  refine Finset.sum_congr rfl fun p _ => ?_
  by_cases h : InBin edge k (A p)
  · rw [if_pos ((mask_iff A k p).mpr h), ind_true h, Nat.cast_one]
  · rw [if_neg fun e => h ((mask_iff A k p).mp e), ind_false h, Nat.cast_zero]

/-- The weight of bin `k`. -/
def binWeight (k : ℕ) : ℝ := 16777216 / (1 / 2 * count edge A k + eps)

/-- The weight computed from a bin's tally is the weight of the bin. -/
theorem weightOf_apply {z : FVec Ideal S_ .f32} (k : ℕ) (i : S_.Idx) (hz : z i = (0 : EReal)) :
    weightOf z (tally (mask A k)) i = (binWeight A k : EReal) := by
  show Ideal.div (Ideal.ofBits .f32 0x4B800000#32) (Ideal.ofBits .f32 0x3F000000#32 * z i + Ideal.ofBits .f32 0x3F000000#32 * tally (mask A k) i + Ideal.ofBits .f32 0x358637BD#32) = _
  have hp : 0 < 1 / 2 * count edge A k + eps := by have := eps_pos; have := count_nonneg (E := edge) (g := A) k; positivity
  rw [hz, mul_zero, zero_add, tally_apply, total_eq, half_eq, eps_eq, ← EReal.coe_mul, ← EReal.coe_add, div_coe _ hp.ne']
  rfl

/-- One more bin: where its mask is set the weight is that bin's, elsewhere what it was. -/
theorem layer (n : ℕ) {z : FVec Ideal S_ .f32} {rest : FVec Ideal S4096x4096 .f32} (hz : ∀ i, z i = (0 : EReal))
    (hr : ∀ p, rest p = (pick (E := edge) (binWeight A) n (A p) : EReal)) (p : S4096x4096.Idx) :
    select (mask A n) (spread (weightOf z (tally (mask A n)))) rest p = (pick (E := edge) (binWeight A) (n + 1) (A p) : EReal) := by
  classical
  show (if mask A n p = 1#1 then weightOf z (tally (mask A n)) _ else rest p) = (((if InBin edge n (A p) then binWeight A n else pick (binWeight A) n (A p)) : ℝ) : EReal)
  by_cases h : InBin edge n (A p)
  · rw [if_pos ((mask_iff A n p).mpr h), if_pos h, weightOf_apply A n _ (hz _)]
  · rw [if_neg fun e => h ((mask_iff A n p).mp e), if_neg h, hr]

/-- One more bin in the running count. -/
theorem running (n : ℕ) {t : FVec Ideal S_ .f32} (ht : ∀ i, t i = ((∑ k ∈ Finset.range n, count edge A k : ℝ) : EReal)) (i : S_.Idx) :
    addf t (tally (mask A n)) i = ((∑ k ∈ Finset.range (n + 1), count edge A k : ℝ) : EReal) := by
  show t i + tally (mask A n) i = _
  rw [ht, tally_apply, Finset.sum_range_succ, EReal.coe_add]

end Cert.ReferenceIdeal.Hand

end
-- ==== Proof.Ref.lean ====
/- The reference, read: its table is the table of gaps, and its result is the loss of that table. -/
module

public import proofs.«01_k».proof.Proof.Bins

@[expose] public section

set_option maxRecDepth 16384

noncomputable section

namespace Cert.ReferenceIdeal.Hand

open Cert.ReferenceIdeal Cert.ReferenceIdeal.Gen Cert.ReferenceIdeal.Value Cert.Plain
open Idealize.ShloMosaic Idealize.ShloMosaic.TcCoe

variable (V : Valuation τ sig (Elt Ideal))

/-- The rows the reference is given. -/
def rows (i : Fin 4096) (k : Fin 64) : EReal := V (Proc.devRef .tc main_arg0) (ix2 i k)
/-- The labels the reference is given. -/
def labels (i : Fin 4096) : BitVec 32 := V (Proc.devRef .tc main_arg1) (ix1 i)

/-- The reference's table of cosines. -/
abbrev cosines : S4096x4096.Idx → EReal := res_main_v6 V
/-- The table of labels. -/
abbrev agree : S4096x4096.Idx → EReal := res_main_v12 V
/-- The table of distances between the two. -/
abbrev table : S4096x4096.Idx → EReal := res_main_v14 V

/-- The reference's cosines are the cosines of the rows. -/
theorem cosine_apply (r s : Fin 4096) : cosines V (ix2 r s) = cosine (rows V) r s := by
  unfold cosine unit rows
  show res_main_v6 V (ix2 r s) = _
  pointwise [res_main_v6, res_main_v4]

/-- The reference's labels are one where the labels agree, else zero. -/
theorem label_apply (r s : Fin 4096) : agree V (ix2 r s) = (label (labels V) r s : EReal) := by
  have h : agree V (ix2 r s) = FloatOps.uitofp (F := Ideal) .f32 (IntOp.cmpi .eq (V (Proc.devRef .tc main_arg1) (ix1 r)) (V (Proc.devRef .tc main_arg1) (ix1 s))) := by
    show res_main_v12 V (ix2 r s) = _
    pointwise [res_main_v12, res_main_v7]
  rw [h]
  exact congrArg (fun x : ℝ => (x : EReal)) (label_word (labels V r) (labels V s))

/-- The reference's table holds the gaps. -/
theorem table_apply (r s : Fin 4096) : table V (ix2 r s) = gap (rows V) (labels V) r s := by
  show max (cosines V (ix2 r s) - agree V (ix2 r s)) (-(cosines V (ix2 r s) - agree V (ix2 r s))) = _
  rw [cosine_apply, label_apply]
  rfl

/-- The same, at an index of the table. -/
theorem table_pairs (p : S4096x4096.Idx) : table V p = gap (rows V) (labels V) (pairs p).1 (pairs p).2 := by
  rw [← table_apply]
  exact congrArg _ (pairs.left_inv p).symm

/-- The entries of the table are at least zero. -/
theorem table_nonneg (p : S4096x4096.Idx) : (0 : EReal) ≤ table V p := by
  rw [table_pairs]
  exact gap_nonneg _ _ _ _

/-- Its squares are the squares of the gaps. -/
theorem square_apply (p : S4096x4096.Idx) :
    mulf (res_main_v191 V) (res_main_v191 V) p = (table V p * table V p : EReal) := by
  obtain ⟨q, rfl⟩ := pairs.symm.surjective p
  show (agree V (ix2 q.1 q.2) - cosines V (ix2 q.1 q.2)) * (agree V (ix2 q.1 q.2) - cosines V (ix2 q.1 q.2)) = table V (ix2 q.1 q.2) * table V (ix2 q.1 q.2)
  rw [cosine_apply, label_apply, table_apply, gap_sq]

/-- The accumulated sums the weights start from are zero. -/
theorem start_zero {off : Fin 1 → ℕ} (h : S10.Slices off S1) (i : S_.Idx) :
    shapeCast S_ (extractStridedSlice S1 off (res_main_v16 V) h) shapeCasts_S1_S_ i = (0 : EReal) :=
  Ideal.ofBits_zero_f32

/-- The reference's weights: of each entry, the weight of its bin. -/
theorem weights_apply (p : S4096x4096.Idx) :
    res_main_v186 V p = (pick (E := edge) (binWeight (table V)) 10 (table V p) : EReal) := by
  unfold res_main_v186
  refine layer _ 9 (start_zero V _) (layer _ 8 (start_zero V _) (layer _ 7 (start_zero V _) (layer _ 6 (start_zero V _)
    (layer _ 5 (start_zero V _) (layer _ 4 (start_zero V _) (layer _ 3 (start_zero V _) (layer _ 2 (start_zero V _)
    (layer _ 1 (start_zero V _) (layer _ 0 (start_zero V _) fun p => ?_))))))))) p
  exact Ideal.ofBits_zero_f32

/-- The reference's running count ends at the number of entries in any bin. -/
theorem total_apply (i : S_.Idx) : res_main_v178 V i = (valid edge (table V) : EReal) := by
  unfold res_main_v178 valid
  refine running _ 9 (running _ 8 (running _ 7 (running _ 6 (running _ 5 (running _ 4 (running _ 3 (running _ 2
    (running _ 1 (running _ 0 fun i => ?_))))))))) i
  exact Ideal.ofBits_zero_f32

/-- The reference's result term. -/
def result : FVec Ideal S_ .f32 :=
  Host.divf (Host.reduceAdd (mulf (mulf (res_main_v191 V) (res_main_v191 V)) (select (broadcastInDim S4096x4096 ![] bcast_S_S4096x4096 (cmpf .ogt (res_main_v178 V) (constant S_ .f32 0x00000000#32))) (Host.divf (res_main_v186 V) (broadcastInDim S4096x4096 ![] bcast_S_S4096x4096 (res_main_v178 V))) (res_main_v186 V))) (constant S_ .f32 0x00000000#32) reducesTo_S4096x4096_S_d0_1 h_S_) (constant S_ .f32 0x4B800000#32)

/-- What the weights are divided by: the number of entries in any bin, when there are any. -/
def scale : ℝ := open Classical in if 0 < valid edge (table V) then (valid edge (table V))⁻¹ else 1

/-- One entry of the sum: the square of the gap times its weight, a real number. -/
theorem entry_apply (p : S4096x4096.Idx) :
    (mulf (mulf (res_main_v191 V) (res_main_v191 V)) (select (broadcastInDim S4096x4096 ![] bcast_S_S4096x4096 (cmpf .ogt (res_main_v178 V) (constant S_ .f32 0x00000000#32))) (Host.divf (res_main_v186 V) (broadcastInDim S4096x4096 ![] bcast_S_S4096x4096 (res_main_v178 V))) (res_main_v186 V)) p : EReal)
      = (((table V p : EReal).toReal ^ 2 * (pick (E := edge) (binWeight (table V)) 10 (table V p) * scale V) : ℝ) : EReal) := by
  rw [← square_mul_pick _ _ _ (table_nonneg V p)]
  refine congrArg₂ (· * ·) (square_apply V p) ?_
  have hw := weights_apply V p
  have ht := total_apply V
  show (if BitVec.ofBool (decide (Ideal.ofBits .f32 0x00000000#32 < res_main_v178 V _)) = 1#1 then Ideal.div (res_main_v186 V p) (res_main_v178 V _) else res_main_v186 V p) = _
  rw [ht, Ideal.ofBits_zero_f32, hw]
  unfold scale
  by_cases h : 0 < valid edge (table V)
  · rw [if_pos ((bit_iff _).mpr (EReal.coe_pos.mpr h)), if_pos h, div_coe _ h.ne', div_eq_mul_inv]
  · rw [if_neg fun e => h (EReal.coe_pos.mp ((bit_iff _).mp e)), if_neg h, mul_one]

/-- The bins' weighted squares, scaled and averaged, are the loss. -/
theorem mean_eq : (∑ k ∈ Finset.range 10, squares edge (table V) k * binWeight (table V) k) * scale V / 16777216
    = loss edge (table V) (1 / 2) eps := by
  have hs : ∑ k ∈ Finset.range 10, squares edge (table V) k * binWeight (table V) k
      = 16777216 * ∑ k ∈ Finset.range 10, squares edge (table V) k / (1 / 2 * count edge (table V) k + eps) := by
    rw [Finset.mul_sum]
    exact Finset.sum_congr rfl fun k _ => by unfold binWeight; ring
  rw [hs]
  unfold loss scale
  by_cases h : 0 < valid edge (table V)
  · rw [if_pos h, mul_assoc, mul_div_cancel_left₀ _ (by norm_num)]; exact (div_eq_mul_inv _ _).symm
  · rw [Finset.sum_eq_zero fun k hk => by rw [squares_zero (count_zero h (Finset.mem_range.mp hk)), zero_div]]
    simp

/-- The reference's result is the loss of its table. -/
theorem result_apply (i : S_.Idx) : result V i = (loss edge (table V) (1 / 2) eps : EReal) := by
  have hE : ∀ k < 10, edge k ≤ edge (k + 1) := edge_le
  unfold result
  show Ideal.div (Ideal.ofBits .f32 0x00000000#32 + ∑ p ∈ Finset.univ.filter fun p : S4096x4096.Idx => Gen.reducesTo_S4096x4096_S_d0_1.drop p = i, _) (Ideal.ofBits .f32 0x4B800000#32) = _
  rw [drop_all, Finset.sum_congr rfl fun p _ => entry_apply V p, ← coe_sum, sum_pick _ _ hE, Ideal.ofBits_zero_f32, zero_add, total_eq,
    div_coe _ (by norm_num), mean_eq]

/-- The loss of the table is the loss of the family of gaps. -/
theorem loss_pairs : loss edge (table V) (1 / 2) eps = loss edge (fun q : Fin 4096 × Fin 4096 => gap (rows V) (labels V) q.1 q.2) (1 / 2) eps := by
  have hc : ∀ k, Plain.count edge (table V) k = Plain.count edge (fun q : Fin 4096 × Fin 4096 => gap (rows V) (labels V) q.1 q.2) k := fun k =>
    Fintype.sum_equiv pairs _ _ fun p => by rw [table_pairs]
  have hs : ∀ k, squares edge (table V) k = squares edge (fun q : Fin 4096 × Fin 4096 => gap (rows V) (labels V) q.1 q.2) k := fun k =>
    Fintype.sum_equiv pairs _ _ fun p => by rw [table_pairs]
  unfold loss valid
  simp only [hc, hs]

end Cert.ReferenceIdeal.Hand

end
-- ==== Proof.Equation.lean ====
/- The equation: over the extended reals the kernel and the reference end with the same loss. -/
module

public import proofs.«01_k».proof.Defs
public import proofs.«01_k».proof.Proof.KRun
public import proofs.«01_k».proof.Proof.Ref

@[expose] public section

noncomputable section

namespace Cert.Equation

open Idealize.ShloMosaic Idealize.ShloMosaic.TcCoe Idealize.SL.Sem

/-- From memories that agree on the rows and the labels, the reference's result is the kernel's loss. -/
theorem reference_loss (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.ReferenceIdeal.Hand.result (StableHlo.launchContents m' c) = fun _ => Cert.KernelIdeal.Hand.lossOf m c := by
  have hX : Cert.ReferenceIdeal.Hand.rows (StableHlo.launchContents m' c) = Cert.KernelIdeal.Hand.rows m c :=
    funext fun i => funext fun k => congrFun h0 (ix2 i k)
  have hT : Cert.ReferenceIdeal.Hand.labels (StableHlo.launchContents m' c) = Cert.KernelIdeal.Hand.labels m c :=
    funext fun i => congrFun h1 (ix1 i)
  funext i
  rw [Cert.ReferenceIdeal.Hand.result_apply, Cert.ReferenceIdeal.Hand.loss_pairs, hX, hT]
  rfl

/-- The value claim: both run, end with the same loss and keep their arguments. -/
theorem algebraic : Cert.algebraic_KernelIdeal_ReferenceIdeal := fun m g m' g' _ hagree =>
  ⟨fun c _ => Cert.KernelIdeal.Hand.lossOf m c, Cert.KernelIdeal.Hand.run m g,
    (θ_run Cert.ReferenceIdeal.defs _ _).mono
      (fun _ h c => ⟨(h c).1.trans (reference_loss m m' c (hagree c).1 (hagree c).2), (h c).2⟩)
      (Cert.ReferenceIdeal.Value.run (F := Ideal) m' g')⟩

end Cert.Equation

end
-- ==== Proof.lean ====
module

public import proofs.«01_k».proof.Defs
public import proofs.«01_k».proof.Proof.Frames
public import proofs.«01_k».proof.Proof.Equation
public import proofs.«01_k».proof.Proof.Gen.Kernel
public import proofs.«01_k».proof.Proof.Gen.KernelIdeal
public import proofs.«01_k».proof.Proof.Gen.ReferenceIdeal

@[expose] public section

noncomputable section

namespace Cert.Proof

/-- The certificate's claim. -/
theorem claim : Cert.Claim := ⟨Cert.Kernel.Gen.facts, Cert.KernelIdeal.Gen.facts, Cert.ReferenceIdeal.Gen.facts,
  Cert.Frames.frame_kernel, Cert.Frames.frame_kernelIdeal, Cert.Frames.frame_referenceIdeal, trivial,
  Cert.Equation.algebraic⟩

end Cert.Proof

end
